-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x64 : Shape := ⟨2, ![16384, 64]⟩
abbrev S16384 : Shape := ⟨1, ![16384]⟩
abbrev S100000x64 : Shape := ⟨2, ![100000, 64]⟩
abbrev S192x64 : Shape := ⟨2, ![192, 64]⟩
abbrev S192 : Shape := ⟨1, ![192]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x64 .f32) (main_arg1 : IVec S16384 32) (main_arg2 : FVec F S100000x64 .f32) (main_arg3 : FVec F S100000x64 .f32) (main_arg4 : FVec F S192x64 .f32) (main_arg5 : FVec F S192x64 .f32) (main_arg6 : FVec F S192 .f32) (main_arg7 : FVec F S192 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 100000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x64 : Shape := ⟨2, ![16384, 64]⟩
abbrev S16384 : Shape := ⟨1, ![16384]⟩
abbrev S100000x64 : Shape := ⟨2, ![100000, 64]⟩
abbrev S192x64 : Shape := ⟨2, ![192, 64]⟩
abbrev S192 : Shape := ⟨1, ![192]⟩
abbrev S16384x128 : Shape := ⟨2, ![16384, 128]⟩
abbrev S512 : Shape := ⟨1, ![512]⟩
abbrev S512x128 : Shape := ⟨2, ![512, 128]⟩
abbrev S_ : Shape := ⟨0, ![]⟩
abbrev S16 : Shape := ⟨1, ![16]⟩
abbrev S1 : Shape := ⟨1, ![1]⟩
abbrev S1x64 : Shape := ⟨2, ![1, 64]⟩
abbrev S64 : Shape := ⟨1, ![64]⟩
abbrev S64x192 : Shape := ⟨2, ![64, 192]⟩
abbrev S2048x64 : Shape := ⟨2, ![2048, 64]⟩
abbrev S2048x128 : Shape := ⟨2, ![2048, 128]⟩
abbrev S2048x192 : Shape := ⟨2, ![2048, 192]⟩
abbrev S16384x1 : Shape := ⟨2, ![16384, 1]⟩
abbrev S1x100000x64 : Shape := ⟨3, ![1, 100000, 64]⟩
abbrev S2x100000x64 : Shape := ⟨3, ![2, 100000, 64]⟩

abbrev nBuf : Table → Nat
  | .hbm => 46
  | .local .tc .vmem => 14
  | .local .scVector .vmem => 2
  | _ => 0

abbrev bufTy : (tb : Table) → Fin (nBuf tb) → BufTy
  | .hbm, ⟨0, _⟩ => ⟨S16384x64, .f32⟩
  | .hbm, ⟨1, _⟩ => ⟨S16384, .i32⟩
  | .hbm, ⟨2, _⟩ => ⟨S100000x64, .f32⟩
  | .hbm, ⟨3, _⟩ => ⟨S100000x64, .f32⟩
  | .hbm, ⟨4, _⟩ => ⟨S192x64, .f32⟩
  | .hbm, ⟨5, _⟩ => ⟨S192x64, .f32⟩
  | .hbm, ⟨6, _⟩ => ⟨S192, .f32⟩
  | .hbm, ⟨7, _⟩ => ⟨S192, .f32⟩
  | .hbm, ⟨8, _⟩ => ⟨S16384x128, .f32⟩
  | .hbm, ⟨9, _⟩ => ⟨S64x192, .f32⟩
  | .hbm, ⟨10, _⟩ => ⟨S64x192, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S16384x64, .f32⟩
  | .hbm, ⟨24, _⟩ => ⟨S16384x64, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S100000x64, .f32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S100000x64, .f32⟩
  | .hbm, ⟨43, _⟩ => ⟨S1x100000x64, .f32⟩
  | .hbm, ⟨44, _⟩ => ⟨S1x100000x64, .f32⟩
  | .hbm, ⟨45, _⟩ => ⟨S2x100000x64, .f32⟩
  | .local .tc .vmem, ⟨0, _⟩ => ⟨S2048x64, .f32⟩
  | .local .tc .vmem, ⟨1, _⟩ => ⟨S2048x64, .f32⟩
  | .local .tc .vmem, ⟨2, _⟩ => ⟨S2048x128, .f32⟩
  | .local .tc .vmem, ⟨3, _⟩ => ⟨S2048x128, .f32⟩
  | .local .tc .vmem, ⟨4, _⟩ => ⟨S64x192, .f32⟩
  | .local .tc .vmem, ⟨5, _⟩ => ⟨S64x192, .f32⟩
  | .local .tc .vmem, ⟨6, _⟩ => ⟨S1x64, .f32⟩
  | .local .tc .vmem, ⟨7, _⟩ => ⟨S1x64, .f32⟩
  | .local .tc .vmem, ⟨8, _⟩ => ⟨S1x64, .f32⟩
  | .local .tc .vmem, ⟨9, _⟩ => ⟨S1x64, .f32⟩
  | .local .tc .vmem, ⟨10, _⟩ => ⟨S2048x64, .f32⟩
  | .local .tc .vmem, ⟨11, _⟩ => ⟨S2048x64, .f32⟩
  | .local .tc .vmem, ⟨12, _⟩ => ⟨S2048x64, .f32⟩
  | .local .tc .vmem, ⟨13, _⟩ => ⟨S2048x64, .f32⟩
  | .local .scVector .vmem, ⟨0, _⟩ => ⟨S512, .i32⟩
  | .local .scVector .vmem, ⟨1, _⟩ => ⟨S512x128, .f32⟩
  | _, _ => ⟨S16384x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_arg2_scv : Ref sig .scVector := ⟨.hbm, 2, rfl⟩
abbrev main_arg3_scv : Ref sig .scVector := ⟨.hbm, 3, rfl⟩
abbrev main_arg1_scv : Ref sig .scVector := ⟨.hbm, 1, rfl⟩
abbrev main_v0_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg8_1 : Ref sig .tc := ⟨.vmem, 11, rfl⟩
abbrev cc1_stg9_0 : Ref sig .tc := ⟨.vmem, 12, rfl⟩
abbrev cc1_stg9_1 : Ref sig .tc := ⟨.vmem, 13, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem8_1 : DmaSem sig := 14
abbrev cc1_sem9_0 : DmaSem sig := 15
abbrev cc1_sem9_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg9 : BitVec 32 := Scf.iv c0_i32_0 c1_i32 k0_t1
  let c16_i32 : BitVec 32 := 16#32
  let v5 : BitVec 32 := Scalar.muli arg9 c16_i32
  let v6 : Index := Scalar.indexCast v5
  ![v6.toNat]
def k0_off3 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_7 : BitVec 32 := 16#32
  let v11 : BitVec 32 := Scalar.muli arg9 c16_i32_7
  let c0_i32_8 : BitVec 32 := 0#32
  let v12 : BitVec 32 := Scalar.addi v11 c0_i32_8
  let c0_i32_9 : BitVec 32 := 0#32
  ![v12.toNat, 0]
def k0_off4 (v10 : BitVec 32) : Fin 2 → Nat :=
  let c0_i32_10 : BitVec 32 := 0#32
  ![v10.toNat, 0]

def k0_chk1 (v10 : BitVec 32) : Prop :=
  (∀ a, (k0_off4 v10) a + S1x64.size a ≤ S100000x64.size a)
theorem k0_off4_inb : ∀ (v10 : BitVec 32) (k0_hw1 : k0_chk1 v10), ∀ a, (k0_off4 v10) a + S1x64.size a ≤ S100000x64.size a := fun v10 k0_hw1 => k0_hw1

def k0_off5 (k0_t1 : Fin k0_t1_loop.trips) (c0_i32_8 : BitVec 32) : Fin 2 → Nat :=
  let c0_i32_0 : BitVec 32 := 0#32
  let c1_i32 : BitVec 32 := 1#32
  let arg9 : BitVec 32 := Scf.iv c0_i32_0 c1_i32 k0_t1
  let c16_i32_7 : BitVec 32 := 16#32
  let v11 : BitVec 32 := Scalar.muli arg9 c16_i32_7
  let v12 : BitVec 32 := Scalar.addi v11 c0_i32_8
  let c0_i32_11 : BitVec 32 := 0#32
  ![v12.toNat, 0]
def k0_off6 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_7 : BitVec 32 := 16#32
  let v11 : BitVec 32 := Scalar.muli arg9 c16_i32_7
  let c0_i32_8 : BitVec 32 := 0#32
  let v12 : BitVec 32 := Scalar.addi v11 c0_i32_8
  let c64_i32 : BitVec 32 := 64#32
  ![v12.toNat, 64]
def k0_off7 (v30 : BitVec 32) : Fin 2 → Nat :=
  let c0_i32_19 : BitVec 32 := 0#32
  ![v30.toNat, 0]

def k0_chk2 (v30 : BitVec 32) : Prop :=
  (∀ a, (k0_off7 v30) a + S1x64.size a ≤ S100000x64.size a)
theorem k0_off7_inb : ∀ (v30 : BitVec 32) (k0_hw2 : k0_chk2 v30), ∀ a, (k0_off7 v30) a + S1x64.size a ≤ S100000x64.size a := fun v30 k0_hw2 => k0_hw2

def k0_off8 (k0_t1 : Fin k0_t1_loop.trips) (c1_i32_17 : BitVec 32) : Fin 2 → Nat :=
  let c0_i32_0 : BitVec 32 := 0#32
  let c1_i32 : BitVec 32 := 1#32
  let arg9 : BitVec 32 := Scf.iv c0_i32_0 c1_i32 k0_t1
  let c16_i32_16 : BitVec 32 := 16#32
  let v31 : BitVec 32 := Scalar.muli arg9 c16_i32_16
  let v32 : BitVec 32 := Scalar.addi v31 c1_i32_17
  let c0_i32_20 : BitVec 32 := 0#32
  ![v32.toNat, 0]
def k0_off9 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_16 : BitVec 32 := 16#32
  let v31 : BitVec 32 := Scalar.muli arg9 c16_i32_16
  let c1_i32_17 : BitVec 32 := 1#32
  let v32 : BitVec 32 := Scalar.addi v31 c1_i32_17
  let c64_i32_22 : BitVec 32 := 64#32
  ![v32.toNat, 64]
def k0_off10 (v50 : BitVec 32) : Fin 2 → Nat :=
  let c0_i32_29 : BitVec 32 := 0#32
  ![v50.toNat, 0]

def k0_chk3 (v50 : BitVec 32) : Prop :=
  (∀ a, (k0_off10 v50) a + S1x64.size a ≤ S100000x64.size a)
theorem k0_off10_inb : ∀ (v50 : BitVec 32) (k0_hw3 : k0_chk3 v50), ∀ a, (k0_off10 v50) a + S1x64.size a ≤ S100000x64.size a := fun v50 k0_hw3 => k0_hw3

def k0_off11 (k0_t1 : Fin k0_t1_loop.trips) (c2_i32_27 : BitVec 32) : Fin 2 → Nat :=
  let c0_i32_0 : BitVec 32 := 0#32
  let c1_i32 : BitVec 32 := 1#32
  let arg9 : BitVec 32 := Scf.iv c0_i32_0 c1_i32 k0_t1
  let c16_i32_26 : BitVec 32 := 16#32
  let v51 : BitVec 32 := Scalar.muli arg9 c16_i32_26
  let v52 : BitVec 32 := Scalar.addi v51 c2_i32_27
  let c0_i32_30 : BitVec 32 := 0#32
  ![v52.toNat, 0]
def k0_off12 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_26 : BitVec 32 := 16#32
  let v51 : BitVec 32 := Scalar.muli arg9 c16_i32_26
  let c2_i32_27 : BitVec 32 := 2#32
  let v52 : BitVec 32 := Scalar.addi v51 c2_i32_27
  let c64_i32_32 : BitVec 32 := 64#32
  ![v52.toNat, 64]
def k0_off13 (v70 : BitVec 32) : Fin 2 → Nat :=
  let c0_i32_38 : BitVec 32 := 0#32
  ![v70.toNat, 0]

def k0_chk4 (v70 : BitVec 32) : Prop :=
  (∀ a, (k0_off13 v70) a + S1x64.size a ≤ S100000x64.size a)
theorem k0_off13_inb : ∀ (v70 : BitVec 32) (k0_hw4 : k0_chk4 v70), ∀ a, (k0_off13 v70) a + S1x64.size a ≤ S100000x64.size a := fun v70 k0_hw4 => k0_hw4

def k0_off14 (k0_t1 : Fin k0_t1_loop.trips) (c3_i32 : BitVec 32) : Fin 2 → Nat :=
  let c0_i32_0 : BitVec 32 := 0#32
  let c1_i32 : BitVec 32 := 1#32
  let arg9 : BitVec 32 := Scf.iv c0_i32_0 c1_i32 k0_t1
  let c16_i32_36 : BitVec 32 := 16#32
  let v71 : BitVec 32 := Scalar.muli arg9 c16_i32_36
  let v72 : BitVec 32 := Scalar.addi v71 c3_i32
  let c0_i32_39 : BitVec 32 := 0#32
  ![v72.toNat, 0]
def k0_off15 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_36 : BitVec 32 := 16#32
  let v71 : BitVec 32 := Scalar.muli arg9 c16_i32_36
  let c3_i32 : BitVec 32 := 3#32
  let v72 : BitVec 32 := Scalar.addi v71 c3_i32
  let c64_i32_41 : BitVec 32 := 64#32
  ![v72.toNat, 64]
def k0_off16 (v90 : BitVec 32) : Fin 2 → Nat :=
  let c0_i32_47 : BitVec 32 := 0#32
  ![v90.toNat, 0]

def k0_chk5 (v90 : BitVec 32) : Prop :=
  (∀ a, (k0_off16 v90) a + S1x64.size a ≤ S100000x64.size a)
theorem k0_off16_inb : ∀ (v90 : BitVec 32) (k0_hw5 : k0_chk5 v90), ∀ a, (k0_off16 v90) a + S1x64.size a ≤ S100000x64.size a := fun v90 k0_hw5 => k0_hw5

def k0_off17 (k0_t1 : Fin k0_t1_loop.trips) (c4_i32 : BitVec 32) : Fin 2 → Nat :=
  let c0_i32_0 : BitVec 32 := 0#32
  let c1_i32 : BitVec 32 := 1#32
  let arg9 : BitVec 32 := Scf.iv c0_i32_0 c1_i32 k0_t1
  let c16_i32_45 : BitVec 32 := 16#32
  let v91 : BitVec 32 := Scalar.muli arg9 c16_i32_45
  let v92 : BitVec 32 := Scalar.addi v91 c4_i32
  let c0_i32_48 : BitVec 32 := 0#32
  ![v92.toNat, 0]
def k0_off18 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_45 : BitVec 32 := 16#32
  let v91 : BitVec 32 := Scalar.muli arg9 c16_i32_45
  let c4_i32 : BitVec 32 := 4#32
  let v92 : BitVec 32 := Scalar.addi v91 c4_i32
  let c64_i32_50 : BitVec 32 := 64#32
  ![v92.toNat, 64]
def k0_off19 (v110 : BitVec 32) : Fin 2 → Nat :=
  let c0_i32_56 : BitVec 32 := 0#32
  ![v110.toNat, 0]

def k0_chk6 (v110 : BitVec 32) : Prop :=
  (∀ a, (k0_off19 v110) a + S1x64.size a ≤ S100000x64.size a)
theorem k0_off19_inb : ∀ (v110 : BitVec 32) (k0_hw6 : k0_chk6 v110), ∀ a, (k0_off19 v110) a + S1x64.size a ≤ S100000x64.size a := fun v110 k0_hw6 => k0_hw6

def k0_off20 (k0_t1 : Fin k0_t1_loop.trips) (c5_i32 : BitVec 32) : Fin 2 → Nat :=
  let c0_i32_0 : BitVec 32 := 0#32
  let c1_i32 : BitVec 32 := 1#32
  let arg9 : BitVec 32 := Scf.iv c0_i32_0 c1_i32 k0_t1
  let c16_i32_54 : BitVec 32 := 16#32
  let v111 : BitVec 32 := Scalar.muli arg9 c16_i32_54
  let v112 : BitVec 32 := Scalar.addi v111 c5_i32
  let c0_i32_57 : BitVec 32 := 0#32
  ![v112.toNat, 0]
def k0_off21 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_54 : BitVec 32 := 16#32
  let v111 : BitVec 32 := Scalar.muli arg9 c16_i32_54
  let c5_i32 : BitVec 32 := 5#32
  let v112 : BitVec 32 := Scalar.addi v111 c5_i32
  let c64_i32_59 : BitVec 32 := 64#32
  ![v112.toNat, 64]
def k0_off22 (v130 : BitVec 32) : Fin 2 → Nat :=
  let c0_i32_65 : BitVec 32 := 0#32
  ![v130.toNat, 0]

def k0_chk7 (v130 : BitVec 32) : Prop :=
  (∀ a, (k0_off22 v130) a + S1x64.size a ≤ S100000x64.size a)
theorem k0_off22_inb : ∀ (v130 : BitVec 32) (k0_hw7 : k0_chk7 v130), ∀ a, (k0_off22 v130) a + S1x64.size a ≤ S100000x64.size a := fun v130 k0_hw7 => k0_hw7

def k0_off23 (k0_t1 : Fin k0_t1_loop.trips) (c6_i32 : BitVec 32) : Fin 2 → Nat :=
  let c0_i32_0 : BitVec 32 := 0#32
  let c1_i32 : BitVec 32 := 1#32
  let arg9 : BitVec 32 := Scf.iv c0_i32_0 c1_i32 k0_t1
  let c16_i32_63 : BitVec 32 := 16#32
  let v131 : BitVec 32 := Scalar.muli arg9 c16_i32_63
  let v132 : BitVec 32 := Scalar.addi v131 c6_i32
  let c0_i32_66 : BitVec 32 := 0#32
  ![v132.toNat, 0]
def k0_off24 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_63 : BitVec 32 := 16#32
  let v131 : BitVec 32 := Scalar.muli arg9 c16_i32_63
  let c6_i32 : BitVec 32 := 6#32
  let v132 : BitVec 32 := Scalar.addi v131 c6_i32
  let c64_i32_68 : BitVec 32 := 64#32
  ![v132.toNat, 64]
def k0_off25 (v150 : BitVec 32) : Fin 2 → Nat :=
  let c0_i32_74 : BitVec 32 := 0#32
  ![v150.toNat, 0]

def k0_chk8 (v150 : BitVec 32) : Prop :=
  (∀ a, (k0_off25 v150) a + S1x64.size a ≤ S100000x64.size a)
theorem k0_off25_inb : ∀ (v150 : BitVec 32) (k0_hw8 : k0_chk8 v150), ∀ a, (k0_off25 v150) a + S1x64.size a ≤ S100000x64.size a := fun v150 k0_hw8 => k0_hw8

def k0_off26 (k0_t1 : Fin k0_t1_loop.trips) (c7_i32 : BitVec 32) : Fin 2 → Nat :=
  let c0_i32_0 : BitVec 32 := 0#32
  let c1_i32 : BitVec 32 := 1#32
  let arg9 : BitVec 32 := Scf.iv c0_i32_0 c1_i32 k0_t1
  let c16_i32_72 : BitVec 32 := 16#32
  let v151 : BitVec 32 := Scalar.muli arg9 c16_i32_72
  let v152 : BitVec 32 := Scalar.addi v151 c7_i32
  let c0_i32_75 : BitVec 32 := 0#32
  ![v152.toNat, 0]
def k0_off27 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_72 : BitVec 32 := 16#32
  let v151 : BitVec 32 := Scalar.muli arg9 c16_i32_72
  let c7_i32 : BitVec 32 := 7#32
  let v152 : BitVec 32 := Scalar.addi v151 c7_i32
  let c64_i32_77 : BitVec 32 := 64#32
  ![v152.toNat, 64]
def k0_off28 (v170 : BitVec 32) : Fin 2 → Nat :=
  let c0_i32_83 : BitVec 32 := 0#32
  ![v170.toNat, 0]

def k0_chk9 (v170 : BitVec 32) : Prop :=
  (∀ a, (k0_off28 v170) a + S1x64.size a ≤ S100000x64.size a)
theorem k0_off28_inb : ∀ (v170 : BitVec 32) (k0_hw9 : k0_chk9 v170), ∀ a, (k0_off28 v170) a + S1x64.size a ≤ S100000x64.size a := fun v170 k0_hw9 => k0_hw9

def k0_off29 (k0_t1 : Fin k0_t1_loop.trips) (c8_i32 : BitVec 32) : Fin 2 → Nat :=
  let c0_i32_0 : BitVec 32 := 0#32
  let c1_i32 : BitVec 32 := 1#32
  let arg9 : BitVec 32 := Scf.iv c0_i32_0 c1_i32 k0_t1
  let c16_i32_81 : BitVec 32 := 16#32
  let v171 : BitVec 32 := Scalar.muli arg9 c16_i32_81
  let v172 : BitVec 32 := Scalar.addi v171 c8_i32
  let c0_i32_84 : BitVec 32 := 0#32
  ![v172.toNat, 0]
def k0_off30 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_81 : BitVec 32 := 16#32
  let v171 : BitVec 32 := Scalar.muli arg9 c16_i32_81
  let c8_i32 : BitVec 32 := 8#32
  let v172 : BitVec 32 := Scalar.addi v171 c8_i32
  let c64_i32_86 : BitVec 32 := 64#32
  ![v172.toNat, 64]
def k0_off31 (v190 : BitVec 32) : Fin 2 → Nat :=
  let c0_i32_92 : BitVec 32 := 0#32
  ![v190.toNat, 0]

def k0_chk10 (v190 : BitVec 32) : Prop :=
  (∀ a, (k0_off31 v190) a + S1x64.size a ≤ S100000x64.size a)
theorem k0_off31_inb : ∀ (v190 : BitVec 32) (k0_hw10 : k0_chk10 v190), ∀ a, (k0_off31 v190) a + S1x64.size a ≤ S100000x64.size a := fun v190 k0_hw10 => k0_hw10

def k0_off32 (k0_t1 : Fin k0_t1_loop.trips) (c9_i32 : BitVec 32) : Fin 2 → Nat :=
  let c0_i32_0 : BitVec 32 := 0#32
  let c1_i32 : BitVec 32 := 1#32
  let arg9 : BitVec 32 := Scf.iv c0_i32_0 c1_i32 k0_t1
  let c16_i32_90 : BitVec 32 := 16#32
  let v191 : BitVec 32 := Scalar.muli arg9 c16_i32_90
  let v192 : BitVec 32 := Scalar.addi v191 c9_i32
  let c0_i32_93 : BitVec 32 := 0#32
  ![v192.toNat, 0]
def k0_off33 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_90 : BitVec 32 := 16#32
  let v191 : BitVec 32 := Scalar.muli arg9 c16_i32_90
  let c9_i32 : BitVec 32 := 9#32
  let v192 : BitVec 32 := Scalar.addi v191 c9_i32
  let c64_i32_95 : BitVec 32 := 64#32
  ![v192.toNat, 64]
def k0_off34 (v210 : BitVec 32) : Fin 2 → Nat :=
  let c0_i32_101 : BitVec 32 := 0#32
  ![v210.toNat, 0]

def k0_chk11 (v210 : BitVec 32) : Prop :=
  (∀ a, (k0_off34 v210) a + S1x64.size a ≤ S100000x64.size a)
theorem k0_off34_inb : ∀ (v210 : BitVec 32) (k0_hw11 : k0_chk11 v210), ∀ a, (k0_off34 v210) a + S1x64.size a ≤ S100000x64.size a := fun v210 k0_hw11 => k0_hw11

def k0_off35 (k0_t1 : Fin k0_t1_loop.trips) (c10_i32 : BitVec 32) : Fin 2 → Nat :=
  let c0_i32_0 : BitVec 32 := 0#32
  let c1_i32 : BitVec 32 := 1#32
  let arg9 : BitVec 32 := Scf.iv c0_i32_0 c1_i32 k0_t1
  let c16_i32_99 : BitVec 32 := 16#32
  let v211 : BitVec 32 := Scalar.muli arg9 c16_i32_99
  let v212 : BitVec 32 := Scalar.addi v211 c10_i32
  let c0_i32_102 : BitVec 32 := 0#32
  ![v212.toNat, 0]
def k0_off36 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_99 : BitVec 32 := 16#32
  let v211 : BitVec 32 := Scalar.muli arg9 c16_i32_99
  let c10_i32 : BitVec 32 := 10#32
  let v212 : BitVec 32 := Scalar.addi v211 c10_i32
  let c64_i32_104 : BitVec 32 := 64#32
  ![v212.toNat, 64]
def k0_off37 (v230 : BitVec 32) : Fin 2 → Nat :=
  let c0_i32_110 : BitVec 32 := 0#32
  ![v230.toNat, 0]

def k0_chk12 (v230 : BitVec 32) : Prop :=
  (∀ a, (k0_off37 v230) a + S1x64.size a ≤ S100000x64.size a)
theorem k0_off37_inb : ∀ (v230 : BitVec 32) (k0_hw12 : k0_chk12 v230), ∀ a, (k0_off37 v230) a + S1x64.size a ≤ S100000x64.size a := fun v230 k0_hw12 => k0_hw12

def k0_off38 (k0_t1 : Fin k0_t1_loop.trips) (c11_i32 : BitVec 32) : Fin 2 → Nat :=
  let c0_i32_0 : BitVec 32 := 0#32
  let c1_i32 : BitVec 32 := 1#32
  let arg9 : BitVec 32 := Scf.iv c0_i32_0 c1_i32 k0_t1
  let c16_i32_108 : BitVec 32 := 16#32
  let v231 : BitVec 32 := Scalar.muli arg9 c16_i32_108
  let v232 : BitVec 32 := Scalar.addi v231 c11_i32
  let c0_i32_111 : BitVec 32 := 0#32
  ![v232.toNat, 0]
def k0_off39 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_108 : BitVec 32 := 16#32
  let v231 : BitVec 32 := Scalar.muli arg9 c16_i32_108
  let c11_i32 : BitVec 32 := 11#32
  let v232 : BitVec 32 := Scalar.addi v231 c11_i32
  let c64_i32_113 : BitVec 32 := 64#32
  ![v232.toNat, 64]
def k0_off40 (v250 : BitVec 32) : Fin 2 → Nat :=
  let c0_i32_119 : BitVec 32 := 0#32
  ![v250.toNat, 0]

def k0_chk13 (v250 : BitVec 32) : Prop :=
  (∀ a, (k0_off40 v250) a + S1x64.size a ≤ S100000x64.size a)
theorem k0_off40_inb : ∀ (v250 : BitVec 32) (k0_hw13 : k0_chk13 v250), ∀ a, (k0_off40 v250) a + S1x64.size a ≤ S100000x64.size a := fun v250 k0_hw13 => k0_hw13

def k0_off41 (k0_t1 : Fin k0_t1_loop.trips) (c12_i32 : BitVec 32) : Fin 2 → Nat :=
  let c0_i32_0 : BitVec 32 := 0#32
  let c1_i32 : BitVec 32 := 1#32
  let arg9 : BitVec 32 := Scf.iv c0_i32_0 c1_i32 k0_t1
  let c16_i32_117 : BitVec 32 := 16#32
  let v251 : BitVec 32 := Scalar.muli arg9 c16_i32_117
  let v252 : BitVec 32 := Scalar.addi v251 c12_i32
  let c0_i32_120 : BitVec 32 := 0#32
  ![v252.toNat, 0]
def k0_off42 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_117 : BitVec 32 := 16#32
  let v251 : BitVec 32 := Scalar.muli arg9 c16_i32_117
  let c12_i32 : BitVec 32 := 12#32
  let v252 : BitVec 32 := Scalar.addi v251 c12_i32
  let c64_i32_122 : BitVec 32 := 64#32
  ![v252.toNat, 64]
def k0_off43 (v270 : BitVec 32) : Fin 2 → Nat :=
  let c0_i32_128 : BitVec 32 := 0#32
  ![v270.toNat, 0]

def k0_chk14 (v270 : BitVec 32) : Prop :=
  (∀ a, (k0_off43 v270) a + S1x64.size a ≤ S100000x64.size a)
theorem k0_off43_inb : ∀ (v270 : BitVec 32) (k0_hw14 : k0_chk14 v270), ∀ a, (k0_off43 v270) a + S1x64.size a ≤ S100000x64.size a := fun v270 k0_hw14 => k0_hw14

def k0_off44 (k0_t1 : Fin k0_t1_loop.trips) (c13_i32 : BitVec 32) : Fin 2 → Nat :=
  let c0_i32_0 : BitVec 32 := 0#32
  let c1_i32 : BitVec 32 := 1#32
  let arg9 : BitVec 32 := Scf.iv c0_i32_0 c1_i32 k0_t1
  let c16_i32_126 : BitVec 32 := 16#32
  let v271 : BitVec 32 := Scalar.muli arg9 c16_i32_126
  let v272 : BitVec 32 := Scalar.addi v271 c13_i32
  let c0_i32_129 : BitVec 32 := 0#32
  ![v272.toNat, 0]
def k0_off45 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_126 : BitVec 32 := 16#32
  let v271 : BitVec 32 := Scalar.muli arg9 c16_i32_126
  let c13_i32 : BitVec 32 := 13#32
  let v272 : BitVec 32 := Scalar.addi v271 c13_i32
  let c64_i32_131 : BitVec 32 := 64#32
  ![v272.toNat, 64]
def k0_off46 (v290 : BitVec 32) : Fin 2 → Nat :=
  let c0_i32_137 : BitVec 32 := 0#32
  ![v290.toNat, 0]

def k0_chk15 (v290 : BitVec 32) : Prop :=
  (∀ a, (k0_off46 v290) a + S1x64.size a ≤ S100000x64.size a)
theorem k0_off46_inb : ∀ (v290 : BitVec 32) (k0_hw15 : k0_chk15 v290), ∀ a, (k0_off46 v290) a + S1x64.size a ≤ S100000x64.size a := fun v290 k0_hw15 => k0_hw15

def k0_off47 (k0_t1 : Fin k0_t1_loop.trips) (c14_i32 : BitVec 32) : Fin 2 → Nat :=
  let c0_i32_0 : BitVec 32 := 0#32
  let c1_i32 : BitVec 32 := 1#32
  let arg9 : BitVec 32 := Scf.iv c0_i32_0 c1_i32 k0_t1
  let c16_i32_135 : BitVec 32 := 16#32
  let v291 : BitVec 32 := Scalar.muli arg9 c16_i32_135
  let v292 : BitVec 32 := Scalar.addi v291 c14_i32
  let c0_i32_138 : BitVec 32 := 0#32
  ![v292.toNat, 0]
def k0_off48 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_135 : BitVec 32 := 16#32
  let v291 : BitVec 32 := Scalar.muli arg9 c16_i32_135
  let c14_i32 : BitVec 32 := 14#32
  let v292 : BitVec 32 := Scalar.addi v291 c14_i32
  let c64_i32_140 : BitVec 32 := 64#32
  ![v292.toNat, 64]
def k0_off49 (v310 : BitVec 32) : Fin 2 → Nat :=
  let c0_i32_146 : BitVec 32 := 0#32
  ![v310.toNat, 0]

def k0_chk16 (v310 : BitVec 32) : Prop :=
  (∀ a, (k0_off49 v310) a + S1x64.size a ≤ S100000x64.size a)
theorem k0_off49_inb : ∀ (v310 : BitVec 32) (k0_hw16 : k0_chk16 v310), ∀ a, (k0_off49 v310) a + S1x64.size a ≤ S100000x64.size a := fun v310 k0_hw16 => k0_hw16

def k0_off50 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_144 : BitVec 32 := 16#32
  let v311 : BitVec 32 := Scalar.muli arg9 c16_i32_144
  let c15_i32 : BitVec 32 := 15#32
  let v312 : BitVec 32 := Scalar.addi v311 c15_i32
  let c0_i32_147 : BitVec 32 := 0#32
  ![v312.toNat, 0]
def k0_off51 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_144 : BitVec 32 := 16#32
  let v311 : BitVec 32 := Scalar.muli arg9 c16_i32_144
  let c15_i32 : BitVec 32 := 15#32
  let v312 : BitVec 32 := Scalar.addi v311 c15_i32
  let c64_i32_149 : BitVec 32 := 64#32
  ![v312.toNat, 64]
@[reducible] def k0_t2_loop : Scf.Loop 32 :=
  let c0_i32_3 : BitVec 32 := 0#32
  let c512_i32_4 : BitVec 32 := 512#32
  let v4 : BitVec 32 := Scalar.addi c0_i32_3 c512_i32_4
  let c1_i32_5 : BitVec 32 := 1#32
  ⟨c0_i32_3, v4, c1_i32_5⟩
def k0_off52 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c0_i32_8 : BitVec 32 := 0#32
  ![arg9.toNat, 0]
def k0_off53 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c64_i32 : BitVec 32 := 64#32
  ![arg9.toNat, 64]
def k0_off54 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7_r1 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2048x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2048x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x64 : Shape := ⟨2, ![16384, 64]⟩
abbrev S16384 : Shape := ⟨1, ![16384]⟩
abbrev S100000x64 : Shape := ⟨2, ![100000, 64]⟩
abbrev S192x64 : Shape := ⟨2, ![192, 64]⟩
abbrev S192 : Shape := ⟨1, ![192]⟩
abbrev S_ : Shape := ⟨0, ![]⟩
abbrev S16384x1 : Shape := ⟨2, ![16384, 1]⟩
abbrev S64x192 : Shape := ⟨2, ![64, 192]⟩
abbrev S16384x192 : Shape := ⟨2, ![16384, 192]⟩
abbrev S1x192 : Shape := ⟨2, ![1, 192]⟩
abbrev S1x100000x64 : Shape := ⟨3, ![1, 100000, 64]⟩
abbrev S2x100000x64 : Shape := ⟨3, ![2, 100000, 64]⟩

abbrev nBuf : Space → Nat
  | .hbm => 99
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384, .i32⟩
  | .hbm, ⟨2, _⟩ => ⟨S100000x64, .f32⟩
  | .hbm, ⟨3, _⟩ => ⟨S100000x64, .f32⟩
  | .hbm, ⟨4, _⟩ => ⟨S192x64, .f32⟩
  | .hbm, ⟨5, _⟩ => ⟨S192x64, .f32⟩
  | .hbm, ⟨6, _⟩ => ⟨S192, .f32⟩
  | .hbm, ⟨7, _⟩ => ⟨S192, .f32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S16384x64, .f32⟩
  | .hbm, ⟨17, _⟩ => ⟨S64x192, .f32⟩
  | .hbm, ⟨18, _⟩ => ⟨S16384x192, .f32⟩
  | .hbm, ⟨19, _⟩ => ⟨S1x192, .f32⟩
  | .hbm, ⟨20, _⟩ => ⟨S16384x192, .f32⟩
  | .hbm, ⟨21, _⟩ => ⟨S16384x192, .f32⟩
  | .hbm, ⟨22, _⟩ => ⟨S64x192, .f32⟩
  | .hbm, ⟨23, _⟩ => ⟨S16384x192, .f32⟩
  | .hbm, ⟨24, _⟩ => ⟨S1x192, .f32⟩
  | .hbm, ⟨25, _⟩ => ⟨S16384x192, .f32⟩
  | .hbm, ⟨26, _⟩ => ⟨S16384x192, .f32⟩
  | .hbm, ⟨27, _⟩ => ⟨S16384x64, .f32⟩
  | .hbm, ⟨28, _⟩ => ⟨S16384x64, .f32⟩
  | .hbm, ⟨29, _⟩ => ⟨S16384x64, .f32⟩
  | .hbm, ⟨30, _⟩ => ⟨S16384x64, .f32⟩
  | .hbm, ⟨31, _⟩ => ⟨S16384x64, .f32⟩
  | .hbm, ⟨32, _⟩ => ⟨S16384x64, .f32⟩
  | .hbm, ⟨33, _⟩ => ⟨S16384x64, .f32⟩
  | .hbm, ⟨34, _⟩ => ⟨S16384x64, .f32⟩
  | .hbm, ⟨35, _⟩ => ⟨S16384x64, .f32⟩
  | .hbm, ⟨36, _⟩ => ⟨S_, .f32⟩
  | .hbm, ⟨37, _⟩ => ⟨S16384x64, .f32⟩
  | .hbm, ⟨38, _⟩ => ⟨S16384x64, .f32⟩
  | .hbm, ⟨39, _⟩ => ⟨S_, .f32⟩
  | .hbm, ⟨40, _⟩ => ⟨S16384x64, .f32⟩
  | .hbm, ⟨41, _⟩ => ⟨S16384x64, .f32⟩
  | .hbm, ⟨42, _⟩ => ⟨S16384x64, .f32⟩
  | .hbm, ⟨43, _⟩ => ⟨S16384x64, .f32⟩
  | .hbm, ⟨44, _⟩ => ⟨S16384x64, .f32⟩
  | .hbm, ⟨45, _⟩ => ⟨S_, .f32⟩
  | .hbm, ⟨46, _⟩ => ⟨S16384x64, .f32⟩
  | .hbm, ⟨47, _⟩ => ⟨S16384x64, .f32⟩
  | .hbm, ⟨48, _⟩ => ⟨S_, .f32⟩
  | .hbm, ⟨49, _⟩ => ⟨S16384x64, .f32⟩
  | .hbm, ⟨50, _⟩ => ⟨S16384x64, .f32⟩
  | .hbm, ⟨51, _⟩ => ⟨S16384x64, .f32⟩
  | .hbm, ⟨52, _⟩ => ⟨S16384x64, .f32⟩
  | .hbm, ⟨53, _⟩ => ⟨S16384x64, .f32⟩
  | .hbm, ⟨54, _⟩ => ⟨S_, .f32⟩
  | .hbm, ⟨55, _⟩ => ⟨S16384x64, .f32⟩
  | .hbm, ⟨56, _⟩ => ⟨S16384x64, .f32⟩
  | .hbm, ⟨57, _⟩ => ⟨S16384x64, .f32⟩
  | .hbm, ⟨58, _⟩ => ⟨S16384x64, .f32⟩
  | .hbm, ⟨59, _⟩ => ⟨S16384x64, .f32⟩
  | .hbm, ⟨60, _⟩ => ⟨S16384x64, .f32⟩
  | .hbm, ⟨61, _⟩ => ⟨S_, .i32⟩
  | .hbm, ⟨62, _⟩ => ⟨S16384, .i32⟩
  | .hbm, ⟨63, _⟩ => ⟨S16384, .i1⟩
  | .hbm, ⟨64, _⟩ => ⟨S_, .i32⟩
  | .hbm, ⟨65, _⟩ => ⟨S16384, .i32⟩
  | .hbm, ⟨66, _⟩ => ⟨S16384, .i32⟩
  | .hbm, ⟨67, _⟩ => ⟨S16384, .i32⟩
  | .hbm, ⟨68, _⟩ => ⟨S16384x1, .i32⟩
  | .hbm, ⟨69, _⟩ => ⟨S16384x64, .f32⟩
  | .hbm, ⟨70, _⟩ => ⟨S_, .f32⟩
  | .hbm, ⟨71, _⟩ => ⟨S16384x64, .f32⟩
  | .hbm, ⟨72, _⟩ => ⟨S16384x64, .f32⟩
  | .hbm, ⟨73, _⟩ => ⟨S16384x64, .f32⟩
  | .hbm, ⟨74, _⟩ => ⟨S_, .f32⟩
  | .hbm, ⟨75, _⟩ => ⟨S16384x64, .f32⟩
  | .hbm, ⟨76, _⟩ => ⟨S16384x64, .f32⟩
  | .hbm, ⟨77, _⟩ => ⟨S16384x64, .f32⟩
  | .hbm, ⟨78, _⟩ => ⟨S_, .i32⟩
  | .hbm, ⟨79, _⟩ => ⟨S16384, .i32⟩
  | .hbm, ⟨80, _⟩ => ⟨S16384, .i1⟩
  | .hbm, ⟨81, _⟩ => ⟨S_, .i32⟩
  | .hbm, ⟨82, _⟩ => ⟨S16384, .i32⟩
  | .hbm, ⟨83, _⟩ => ⟨S16384, .i32⟩
  | .hbm, ⟨84, _⟩ => ⟨S16384, .i32⟩
  | .hbm, ⟨85, _⟩ => ⟨S16384x1, .i32⟩
  | .hbm, ⟨86, _⟩ => ⟨S100000x64, .f32⟩
  | .hbm, ⟨87, _⟩ => ⟨S_, .i32⟩
  | .hbm, ⟨88, _⟩ => ⟨S16384, .i32⟩
  | .hbm, ⟨89, _⟩ => ⟨S16384, .i1⟩
  | .hbm, ⟨90, _⟩ => ⟨S_, .i32⟩
  | .hbm, ⟨91, _⟩ => ⟨S16384, .i32⟩
  | .hbm, ⟨92, _⟩ => ⟨S16384, .i32⟩
  | .hbm, ⟨93, _⟩ => ⟨S16384, .i32⟩
  | .hbm, ⟨94, _⟩ => ⟨S16384x1, .i32⟩
  | .hbm, ⟨95, _⟩ => ⟨S100000x64, .f32⟩
  | .hbm, ⟨96, _⟩ => ⟨S1x100000x64, .f32⟩
  | .hbm, ⟨97, _⟩ => ⟨S1x100000x64, .f32⟩
  | .hbm, ⟨98, _⟩ => ⟨S2x100000x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_5 : Ref sig .tc := ⟨.hbm, 61, rfl⟩
abbrev main_v46 : Ref sig .tc := ⟨.hbm, 62, rfl⟩
abbrev main_v47 : Ref sig .tc := ⟨.hbm, 63, rfl⟩
abbrev main_c_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_9 : Ref sig .tc := ⟨.hbm, 78, rfl⟩
abbrev main_v59 : Ref sig .tc := ⟨.hbm, 79, rfl⟩
abbrev main_v60 : Ref sig .tc := ⟨.hbm, 80, rfl⟩
abbrev main_c_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_11 : Ref sig .tc := ⟨.hbm, 87, rfl⟩
abbrev main_v66 : Ref sig .tc := ⟨.hbm, 88, rfl⟩
abbrev main_v67 : Ref sig .tc := ⟨.hbm, 89, rfl⟩
abbrev main_c_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Proof.Setup.lean ====
/-
  The names the certificate's modules share: the program as the launch theorem sees it, the ghost state, the
  arrays the SparseCore call touches, and the values it leaves.

  The call's 32 tiles take 512 rows each. A tile copies its slice of `idx` to its index scratch, issues one copy per
  addressed row of `hidden` into columns 0–63 of its row scratch and one per row of `variance` into columns 64–127,
  all 1024 of them on one semaphore, waits for them, and copies the row scratch out to its rows of the gathered array.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Batch
public import Idealize.ShloMosaic.Lib.Ring
public import Idealize.ShloMosaic.Lib.ValueIdxCore
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Mem

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels the SparseCore call's threads run over. -/
abbrev ΛP : Labels := Pipeline.Sig Λ₀ (Fin 1) fun p => (pcfgs (F := F) p).Adm
/-- The program's one SparseCore call. -/
abbrev K : SparseCore.Cfg τ sig (ΛP (F := F)) 1 := sc (F := F)
theorem nSub_zero : (K (F := F)).nSub 0 = 16 := rfl
theorem nCore_zero : (K (F := F)).nCore 0 = 2 := rfl
/-- The definitions the call's threads run. -/
abbrev D [FloatOps F] : Defs nD τ sig (Elt F) (ΛP (F := F)) := Pipeline.defs pcfgs defs₀
/-- No loop of a thread needs a variant. -/
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the windows' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## A tile's memory references -/

/-- `hidden`, as a tile addresses it; -/
abbrev hV : Memref sig .scVector .hbm S100000x64 .f32 := Memref.whole main_arg2_scv
/-- `variance`; -/
abbrev vV : Memref sig .scVector .hbm S100000x64 .f32 := Memref.whole main_arg3_scv
/-- `idx`; -/
abbrev iV : Memref sig .scVector .hbm S16384 .i32 := Memref.whole main_arg1_scv
/-- the gathered rows; -/
abbrev oV : Memref sig .scVector .hbm S16384x128 .f32 := Memref.whole main_v0_scv
/-- a tile's row numbers, -/
abbrev sV : Memref sig .scVector .vmem S512 .i32 := Memref.whole cc0_scratch0
/-- and its rows. -/
abbrev rV : Memref sig .scVector .vmem S512x128 .f32 := Memref.whole cc0_scratch1

end Cert.Proof.Mem

end
-- ==== Proof.Body.lean ====
/-
  The TensorCore call's body at a grid point: from the eight input blocks it leaves, in the two output blocks, the new
  hidden rows and the new variance rows of its 2048 batch elements.
-/
module

public import proofs.«01_k».proof.Proof.Setup
public import Idealize.ShloMosaic.Lib.Pipeline.FrameBody
public import Idealize.ShloMosaic.Lib.Pipeline.Value
public import Idealize.ShloMosaic.Lib.Pipeline.RegionsLoop

@[expose] public section

noncomputable section

namespace Cert.Proof.Mem

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F]

local notation "𝕄" => MT nD τ sig (HIx 1) (Elt F) ℕ UU ℕ

/-! ## What the body leaves -/

/-- The first 64 columns of the gathered block: the old hidden rows; -/
abbrev leftCols : Rect S2048x128 := Rect.unit (s := S2048x128) ![0, 0] S2048x64.size inb_S2048x128_S2048x64_0_0
/-- the last 64: the old variance rows. -/
abbrev rightCols : Rect S2048x128 := Rect.unit (s := S2048x128) ![0, 64] S2048x64.size inb_S2048x128_S2048x64_0_64

/-- The new hidden rows, from the input blocks. -/
def out8 (x0 : Vec F S2048x64 .f32) (x1 : Vec F S2048x128 .f32) (x2 : Vec F S64x192 .f32) (x3 : Vec F S64x192 .f32) (x4 : Vec F S1x64 .f32) (x5 : Vec F S1x64 .f32) (x6 : Vec F S1x64 .f32) (x7 : Vec F S1x64 .f32) : Vec F S2048x64 .f32 :=
  k1_pay1 (View.ld x1 leftCols) (k1_pay5 x0 (View.ld x1 leftCols) x2 x3 x5) (k1_pay6 x0 (View.ld x1 leftCols) x2 x3 x4 x6 x7)
    (Scalar.ofBits .f32 0x3F800000#32)

/-- The new variance rows. -/
def out9 (x0 : Vec F S2048x64 .f32) (x1 : Vec F S2048x128 .f32) (x2 : Vec F S64x192 .f32) (x3 : Vec F S64x192 .f32) (x4 : Vec F S1x64 .f32) (x5 : Vec F S1x64 .f32) (x6 : Vec F S1x64 .f32) (x7 : Vec F S1x64 .f32) : Vec F S2048x64 .f32 :=
  k1_pay2 (View.ld x1 leftCols) (View.ld x1 rightCols) (k1_pay5 x0 (View.ld x1 leftCols) x2 x3 x5)
    (k1_pay6 x0 (View.ld x1 leftCols) x2 x3 x4 x6 x7) (Scalar.ofBits .f32 0x3F800000#32)

theorem off_zero : (![0, 0] : Fin 2 → ℕ) = fun _ => 0 := by decide

/-- A whole-block store leaves its payload. -/
theorem stored [∀ e, Nonempty (Elt F e)] {sp : Space} (M : Memref sig .tc sp S2048x64 .f32) (f : M.view.ty.Contents (Elt F)) (inb : ∀ a, (![0, 0] : Fin 2 → ℕ) a + S2048x64.size a ≤ S2048x64.size a)
    (w : S2048x64.Idx → Elt F .f32) :
    M.view.read (Elt F) (M.view.writes (Elt F) f [⟨Rect.unit (s := S2048x64) ![0, 0] S2048x64.size inb, w⟩]) = w := by
  rw [View.read_writes_eq_canon _ _ _ fun y => ⟨_, List.mem_singleton.mpr rfl, View.mem_set_unit_zero off_zero inb y⟩]
  exact View.canon_unit_zero off_zero inb w

/-! A whole-block load reads the block. -/

theorem read_rows {sp : Space} (M : Memref sig .tc sp S2048x64 .f32) (f : M.view.ty.Contents (Elt F)) :
    View.readAt (Elt F) M.view (Rect.unit (s := S2048x64) ![0, 0] S2048x64.size inb_S2048x64_S2048x64_0_0).toLoadRect f = M.view.read (Elt F) f :=
  View.ld_unit_zero off_zero inb_S2048x64_S2048x64_0_0 (M.view.read (Elt F) f)

theorem read_weights {sp : Space} (M : Memref sig .tc sp S64x192 .f32) (f : M.view.ty.Contents (Elt F)) :
    View.readAt (Elt F) M.view (Rect.unit (s := S64x192) ![0, 0] S64x192.size inb_S64x192_S64x192_0_0).toLoadRect f = M.view.read (Elt F) f :=
  View.ld_unit_zero off_zero inb_S64x192_S64x192_0_0 (M.view.read (Elt F) f)

theorem read_bias {sp : Space} (M : Memref sig .tc sp S1x64 .f32) (f : M.view.ty.Contents (Elt F)) :
    View.readAt (Elt F) M.view (Rect.unit (s := S1x64) ![0, 0] S1x64.size inb_S1x64_S1x64_0_0).toLoadRect f = M.view.read (Elt F) f :=
  View.ld_unit_zero off_zero inb_S1x64_S1x64_0_0 (M.view.read (Elt F) f)

/-! ## The body's triple -/

set_option maxHeartbeats 4000000 in
theorem body_run [∀ e, Nonempty (Elt F e)] (c : Dev nD) (E : Set ℕ) (i : grid1.Coords)
    (arg1 : Memref sig .tc .vmem S2048x64 .f32) (harg1 : arg1.IsWhole)
    (arg2 : Memref sig .tc .vmem S2048x128 .f32) (harg2 : arg2.IsWhole)
    (arg3 : Memref sig .tc .vmem S64x192 .f32) (harg3 : arg3.IsWhole)
    (arg4 : Memref sig .tc .vmem S64x192 .f32) (harg4 : arg4.IsWhole)
    (arg5 : Memref sig .tc .vmem S1x64 .f32) (harg5 : arg5.IsWhole)
    (arg6 : Memref sig .tc .vmem S1x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S2048x64 .f32) (harg9 : arg9.IsWhole)
    (arg10 : Memref sig .tc .vmem S2048x64 .f32) (harg10 : arg10.IsWhole)
    (x0 : Vec F S2048x64 .f32) (x1 : Vec F S2048x128 .f32) (x2 : Vec F S64x192 .f32) (x3 : Vec F S64x192 .f32) (x4 : Vec F S1x64 .f32) (x5 : Vec F S1x64 .f32) (x6 : Vec F S1x64 .f32) (x7 : Vec F S1x64 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x2 x3 x4 x5 x6 x7) ∗ owns (c : Thread nD τ) arg10 fullShare (out9 x0 x1 x2 x3 x4 x5 x6 x7)) -∗ Q ⟨⟩))
      ⊢ wp frame (wpE (defs₀ (F := F)) 𝒱₀ (c : Thread nD τ) none) E
          (cc1_body i arg1 harg1 arg2 harg2 arg3 harg3 arg4 harg4 arg5 harg5 arg6 harg6 arg7 harg7 arg8 harg8 arg9 harg9 arg10 harg10) Q := by
  simp only [cc1_body_eq_skeleton]; unfold cc1_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (stored _ _ _ _).trans ?_
    sl_unfold_words; unfold out8
    rw [read_rows arg1, read_weights arg3, read_weights arg4, read_bias arg5, read_bias arg6, read_bias arg7, read_bias arg8]; rfl
  iexists _; isplitr
  swap; · iexact H9
  ipureintro
  refine (stored _ _ _ _).trans ?_
  sl_unfold_words; unfold out9
  rw [read_rows arg1, read_weights arg3, read_weights arg4, read_bias arg5, read_bias arg6, read_bias arg7, read_bias arg8]; rfl

end Cert.Proof.Mem

end
-- ==== Proof.Region.lean ====
/-
  The TensorCore call's pipeline: its proof data over a valuation of the arrays, the body's obligation at a grid point, and
  the region that takes the arrays from one valuation to the next.
-/
module

public import proofs.«01_k».proof.Proof.Body
public import Idealize.ShloMosaic.Lib.Pipeline.FrameBody
public import Idealize.ShloMosaic.Lib.Pipeline.Value
public import Idealize.ShloMosaic.Lib.Pipeline.RegionsLoop

@[expose] public section

noncomputable section

namespace Cert.Proof.Mem

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The proof data -/

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pipeline's proof data: the arrays at `V`; the inputs' buffers kept at their blocks, the outputs' left at the body's
    results; nothing owed; full shares. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => out8 (iblk V c 0 t) (iblk V c 1 t) (iblk V c 2 t) (iblk V c 3 t) (iblk V c 4 t) (iblk V c 5 t) (iblk V c 6 t) (iblk V c 7 t)
    | ⟨9, _⟩ => out9 (iblk V c 0 t) (iblk V c 1 t) (iblk V c 2 t) (iblk V c 3 t) (iblk V c 4 t) (iblk V c 5 t) (iblk V c 6 t) (iblk V c 7 t)
  Φ _ := Pipeline.scopedRest (Ix := HIx 1) (Name := ℕ) (U := UU) (Lvl := ℕ) (Val := Elt F) spec1 c
  q _ := fullShare
  owed _ := 0

theorem A_eq (c : Dev nD) (w : Fin cfg1.W) : (dat V c).A w = V c (Pipeline.arrRef spec1 w) := by dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = out8 (iblk V c 0 t) (iblk V c 1 t) (iblk V c 2 t) (iblk V c 3 t) (iblk V c 4 t) (iblk V c 5 t) (iblk V c 6 t) (iblk V c 7 t) := by dsimp only [dat]
theorem after_9 (c : Dev nD) (t : Fin cfg1.N) : (dat V c).after 9 t = out9 (iblk V c 0 t) (iblk V c 1 t) (iblk V c 2 t) (iblk V c 3 t) (iblk V c 4 t) (iblk V c 5 t) (iblk V c 6 t) (iblk V c 7 t) := by dsimp only [dat]

/-! Each input buffer holds its block at every point. -/

theorem before_0 (c : Dev nD) (t : Fin cfg1.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl)
      (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl)
      (fun t => by rw [after_7]; unfold Dat.blockOf iblk; rw [A_eq]; try rfl) t d).trans
    (by unfold Dat.fetched Dat.blockOf iblk; rw [A_eq]; try rfl)

/-! ## The body's obligation -/

def bodyPre (c : Dev nD) (t : Fin cfg1.N) : sProp 𝕄 :=
  iprop((dat V c).Φ t.castSucc ∗ (dat V c).owesAt none t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d)))

def bodyPost (c : Dev nD) (t : Fin cfg1.N) : sProp 𝕄 :=
  iprop((dat V c).Φ t.succ ∗ (dat V c).owesAt none t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t))

theorem body_at [∀ e, Nonempty (Elt F e)] (c : Dev nD) (t : Fin cfg1.N) :
    bodyPre V c t ⊢ wp frame (wpE (defs₀ (F := F)) 𝒱₀ (c : Thread nD τ) none) Set.univ (bodyAt1 t) (fun _ => bodyPost V c t) := by
  unfold bodyPre bodyPost bodyAt1
  simp only [before_0, before_1, before_2, before_3, before_4, before_5, before_6, before_7]
  rw [show (dat V c).Φ t.succ = (dat V c).Φ t.castSucc from rfl,
    show (dat V c).owesAt none t.succ = (dat V c).owesAt none t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c Set.univ (grid1.coords t) _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_row (t : Fin cfg1.N) : defs₀ (F := F) .tc cfg1.body (cfg1.bodyArgs t (cfg1.slots t)) = bodyAt1 t := rfl

theorem body_obligation [∀ e, Nonempty (Elt F e)] (c : Dev nD) : BodyObligation (dat V c) (defs₀ (F := F)) 𝒱₀ none Set.univ := fun t => by
  rw [bigSep_W1, bigSep_W1, body_row]
  exact triple_restated (body_at V c t) rfl .rfl fun _ => .rfl

/-! ## The region -/

/-- No window's array is chosen at run time. -/
abbrev adm : (p : Fin 1) → (pcfgs (F := F) p).Adm := fun p => (cfgs p).toPCfg_adm

/-- The one pipeline's proof data. -/
def pdats : (p : Fin 1) → (c : Dev nD) → Dat τ (Elt F) (HIx 1) ℕ UU ℕ (Pipeline.pin (pcfgs (F := F)) adm p) c
  | ⟨0, _⟩ => fun c => dat V c

variable (Vp : (c : Dev nD) → (b : Ref sig .tc) → Buf (Elt F) ((c : Thread nD τ).loc b))

/-- Nothing owed, whatever waits are recorded. -/
def noDebt (c : Dev nD) : sProp 𝕄 :=
  iprop(∃ W : Waits sig (HIx 1), owes (c : Thread nD τ) (0 : CellTallies nD τ sig (HIx 1)) W)

set_option backward.isDefEq.respectTransparency.types false in
/-- The region takes the arrays from `V` to any `Vp` that has the two results and agrees with `V` elsewhere. -/
def reg [∀ e, Nonempty (Elt F e)] (h8 : ∀ c, Vp c main_v15_0 = (dat V c).arrAt 8 cfg1.N) (h9 : ∀ c, Vp c main_v15_1 = (dat V c).arrAt 9 cfg1.N)
    (hne : ∀ c (b : Ref sig .tc), b ≠ main_v15_0 → b ≠ main_v15_1 → Vp c b = V c b) :
    Pipeline.RegionSeg (pcfgs (F := F)) adm (pdats V) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ noDebt c)
  post c := iprop(unscopedBufs c (Vp c) ∗ noDebt c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) (launch1).win (launch1).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin noDebt
      icases HO with ⟨%W, HO⟩; iexists W; isplitr; · ipureintro; exact fun _ _ => Or.inl trivial
      iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (V c) (Vp c) ((pdats V 0 c).arrAt · cfg1.N)
      (fun w => by
        fin_cases w
        · exact ((pdats V 0 c).arrAt_in 0 rfl _).trans (hne c main_arg0 (by decide) (by decide)).symm
        · exact ((pdats V 0 c).arrAt_in 1 rfl _).trans (hne c main_v0 (by decide) (by decide)).symm
        · exact ((pdats V 0 c).arrAt_in 2 rfl _).trans (hne c main_v1 (by decide) (by decide)).symm
        · exact ((pdats V 0 c).arrAt_in 3 rfl _).trans (hne c main_v2 (by decide) (by decide)).symm
        · exact ((pdats V 0 c).arrAt_in 4 rfl _).trans (hne c main_v6 (by decide) (by decide)).symm
        · exact ((pdats V 0 c).arrAt_in 5 rfl _).trans (hne c main_v10 (by decide) (by decide)).symm
        · exact ((pdats V 0 c).arrAt_in 6 rfl _).trans (hne c main_v12 (by decide) (by decide)).symm
        · exact ((pdats V 0 c).arrAt_in 7 rfl _).trans (hne c main_v14 (by decide) (by decide)).symm
        · exact (h8 c).symm
        · exact (h9 c).symm)
      (fun b hb => hne c b (fun h => hb (h ▸ Finset.mem_image.mpr ⟨8, Finset.mem_univ _, rfl⟩)) fun h => hb (h ▸ Finset.mem_image.mpr ⟨9, Finset.mem_univ _, rfl⟩))
    iintro ⟨Ha, HO, -, Hrest⟩
    imodintro
    isplitl [Ha Hrest]
    · iapply hjoin; isplitl [Ha] <;> iassumption
    unfold Pipeline.Dat.owesAt Pipeline.owesWithin noDebt
    icases HO with ⟨%W, -, HO⟩; iexists W
    iexact HO

end Cert.Proof.Mem

end
-- ==== Proof.Rows.lean ====
/-
  One row copy of the SparseCore call, and the state it moves along.

  A tile's row scratch is 512 rows of 128 columns. Copy number `2 i` brings row `ws i` of `hidden` into columns 0–63 of
  row `i`, copy number `2 i + 1` brings the same row of `variance` into columns 64–127. `piece j` is the half row copy
  `j` fills, `rest j` the half rows no copy before `j` fills. Before copy `j` the tile holds (`St`): of each table, a
  share that has had one token taken per copy issued from it, and of each token the rows its copy did not read; the half
  rows `rest j` of the scratch; and the batch of copies with `j` issued.
-/
module

public import Idealize.SL.BI.BigOpNat
public import proofs.«01_k».proof.Proof.Setup

@[expose] public section

noncomputable section

namespace Cert.Proof.Mem

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## Half rows of the scratch -/

/-- The number of the copy that fills an entry of the row scratch. -/
def half (y : S512x128.Idx) : ℕ := 2 * (y 0).val + (y 1).val / 64
/-- The entries copy `j` fills; -/
def piece (j : ℕ) : Finset S512x128.Idx := Finset.univ.filter fun y => half y = j
/-- those no copy before `j` fills. -/
def rest (j : ℕ) : Finset S512x128.Idx := Finset.univ.filter fun y => j ≤ half y

theorem half_lt (y : S512x128.Idx) : half y < 1024 := by
  have h0 := idx2_lt0 y; have h1 := idx2_lt1 y; unfold half; omega
theorem mem_piece {j : ℕ} {y : S512x128.Idx} : y ∈ piece j ↔ half y = j := by simp [piece]
theorem mem_rest {j : ℕ} {y : S512x128.Idx} : y ∈ rest j ↔ j ≤ half y := by simp [rest]
theorem rest_zero : rest 0 = Finset.univ := by ext y; simp [rest]
theorem rest_last : rest 1024 = ∅ := by
  ext y; have := half_lt y; simp only [mem_rest, Finset.notMem_empty, iff_false]; omega
theorem rest_step (j : ℕ) : rest j = piece j ∪ rest (j + 1) := by
  ext y; simp only [Finset.mem_union, mem_piece, mem_rest]; omega
theorem piece_disjoint_rest (j : ℕ) : Disjoint (piece j) (rest (j + 1)) := by
  rw [Finset.disjoint_left]; intro y; simp only [mem_piece, mem_rest]; omega
theorem piece_disjoint {i j : ℕ} (h : i ≠ j) : Disjoint (piece i) (piece j) := by
  rw [Finset.disjoint_left]; intro y; simp only [mem_piece]; omega
theorem biUnion_piece : (Finset.range 1024).biUnion piece = Finset.univ := by
  ext y; have := half_lt y; simp [mem_piece, this]

/-! ## The two windows of a row copy -/

/-- A row of a table, as a copy reads it; -/
abbrev srcRow (T : Memref sig .scVector .hbm S100000x64 .f32) (o : Fin 2 → ℕ) (hb : ∀ a, o a + S1x64.size a ≤ S100000x64.size a) :
    Memref sig .scVector .hbm S64 .f32 := (T.slice (Rect.unit (s := S100000x64) o S1x64.size hb) (fun _ => rfl)).squeeze S64 squeezes_S1x64_S64
/-- a half row of the scratch, as a copy fills it. -/
abbrev dstRow (o : Fin 2 → ℕ) (hb : ∀ a, o a + S1x64.size a ≤ S512x128.size a) : Memref sig .scVector .vmem S64 .f32 :=
  ((rV).slice (Rect.unit (s := S512x128) o S1x64.size hb) (fun _ => rfl)).squeeze S64 squeezes_S1x64_S64

theorem unit_idx {s : Shape} {off size : Fin s.rank → ℕ} {hb} (x : (Rect.unit (s := s) off size hb).shape.Idx) (a : Fin s.rank) :
    ((Rect.unit (s := s) off size hb).emb x a).val = off a + (x a).val := by
  show off a + 1 * (x a).val = _
  omega

/-- Where entry `x` of a row copy sits in the table, -/
theorem srcRow_emb (T : Memref sig .scVector .hbm S100000x64 .f32) (r : ℕ) (hr : r < 100000) (hb) (x : S64.Idx) :
    (srcRow T ![r, 0] hb).view.emb x = T.view.emb (ix2 ⟨r, hr⟩ (x 0)) := by
  refine congrArg T.view.emb ?_
  refine (congrArg (Rect.unit (s := S100000x64) ![r, 0] S1x64.size hb).emb (Shape.reshapeEquiv_cons_one (n := 1) (d := ![64]) squeezes_S1x64_S64.numel_eq x)).trans ?_
  funext a
  refine Fin.ext ((unit_idx _ a).trans ?_)
  match a with
  | ⟨0, _⟩ => show r + 0 = r; rfl
  | ⟨1, _⟩ => show 0 + (x 0).val = (x 0).val; omega

/-- and in the scratch. -/
theorem dstRow_emb (i c : ℕ) (hi : i < 512) (hc : c + 64 ≤ 128) (hb) (x : S64.Idx) :
    (dstRow ![i, c] hb).view.emb x = (ix2 ⟨i, hi⟩ ⟨c + (x 0).val, by have h : (x 0).val < 64 := (x 0).isLt; omega⟩ : S512x128.Idx) := by
  refine (congrArg (Rect.unit (s := S512x128) ![i, c] S1x64.size hb).emb (Shape.reshapeEquiv_cons_one (n := 1) (d := ![64]) squeezes_S1x64_S64.numel_eq x)).trans ?_
  funext a
  refine Fin.ext ((unit_idx _ a).trans ?_)
  match a with
  | ⟨0, _⟩ => show i + 0 = i; rfl
  | ⟨1, _⟩ => rfl

theorem dstRow_set (i h : ℕ) (hi : i < 512) (hh : h < 2) (hb) : (dstRow ![i, 64 * h] hb).view.set = piece (2 * i + h) := by
  ext y
  rw [mem_piece]
  constructor
  · intro hy
    obtain ⟨x, -, rfl⟩ := Finset.mem_map.mp hy
    have hx : (x 0).val < 64 := (x 0).isLt
    rw [dstRow_emb i (64 * h) hi (by omega)]
    show 2 * i + (64 * h + (x 0).val) / 64 = 2 * i + h
    omega
  · intro hy
    have h0 := idx2_lt0 y; have h1 := idx2_lt1 y
    unfold half at hy
    refine Finset.mem_map.mpr ⟨ix1 ⟨(y 1).val - 64 * h, by omega⟩, Finset.mem_univ _, ?_⟩
    rw [dstRow_emb i (64 * h) hi (by omega)]
    funext a
    refine Fin.ext ?_
    match a with
    | ⟨0, _⟩ => show i = (y 0).val; omega
    | ⟨1, _⟩ => show 64 * h + ((y 1).val - 64 * h) = (y 1).val; omega

/-! ## The state before a copy -/

section Copies

variable (d : Dev nD) (L : grid0.Coords)

/-- The vector subcore a tile runs on. -/
abbrev cV (L : grid0.Coords) : Fin τ.nSC := (L 0).castLE hcore0
abbrev jV (L : grid0.Coords) : Fin τ.nSub := (L 1).castLE hsub0
abbrev tl (d : Dev nD) (L : grid0.Coords) : Thread nD τ := V d (cV L) (jV L)

/-- The entries of a table that row `r` of it is, none if it has no such row. -/
def rowSet (T : Memref sig .scVector .hbm S100000x64 .f32) (r : ℕ) : Finset (Idx (T.view.loc (tl d L))) :=
  if h : ∀ a, (![r, 0] : Fin 2 → ℕ) a + S1x64.size a ≤ S100000x64.size a then (srcRow T ![r, 0] h).view.set else ∅

variable (ws : ℕ → BitVec 32)

/-- A table after `n` copies read it: what remains of the share, and of each token taken the rows its copy left. -/
def tab (T : Memref sig .scVector .hbm S100000x64 .f32) (q : PosShare TreeShare) (f : Buf (Elt F) (T.view.loc (tl d L))) (n : ℕ) : sProp 𝕄 :=
  iprop((T.view.loc (tl d L) ↦{Transfers.shareDrop q n} f)
    ∗ bigSep (Finset.range n) fun i => T.view.loc (tl d L) ↦[Finset.univ \ rowSet d L T (ws i).toNat]{Transfers.shareTokN q i} f)

/-- The row a copy read, given back. -/
def tabRow (T : Memref sig .scVector .hbm S100000x64 .f32) (q : PosShare TreeShare) (f : Buf (Elt F) (T.view.loc (tl d L))) (i : ℕ) : sProp 𝕄 :=
  iprop(T.view.loc (tl d L) ↦[rowSet d L T (ws i).toNat]{Transfers.shareTokN q i} f)

theorem tab_zero (T : Memref sig .scVector .hbm S100000x64 .f32) (q : PosShare TreeShare) (f : Buf (Elt F) (T.view.loc (tl d L))) :
    (T.view.loc (tl d L) ↦{q} f : sProp 𝕄) ⊢ tab d L ws T q f 0 := by
  unfold tab
  rw [Finset.range_zero, bigSep_empty]
  iintro H
  isplitl [H]; · iexact H
  iempintro

/-- Every row given back, the table is whole again. -/
theorem tab_join (T : Memref sig .scVector .hbm S100000x64 .f32) (q : PosShare TreeShare) (f : Buf (Elt F) (T.view.loc (tl d L))) (n : ℕ) :
    iprop(tab d L ws T q f n ∗ bigSep (Finset.range n) (tabRow d L ws T q f)) ⊢ (T.view.loc (tl d L) ↦{q} f : sProp 𝕄) := by
  unfold tab tabRow
  iintro ⟨⟨Hd, Ht⟩, Hr⟩
  iapply (Transfers.pointsTo_toks_range q n).2
  isplitl [Hd]; · iexact Hd
  ihave H := (Entails.of_eq (bigSep_sep' (Finset.range n) (fun i => (T.view.loc (tl d L) ↦[rowSet d L T (ws i).toNat]{Transfers.shareTokN q i} f : sProp 𝕄))
    (fun i => (T.view.loc (tl d L) ↦[Finset.univ \ rowSet d L T (ws i).toNat]{Transfers.shareTokN q i} f : sProp 𝕄))).symm) $$ [Ht Hr]
  · isplitl [Hr] <;> iassumption
  ihave H' := (show bigSep (Finset.range n) (fun i => iprop((T.view.loc (tl d L) ↦[rowSet d L T (ws i).toNat]{Transfers.shareTokN q i} f)
        ∗ (T.view.loc (tl d L) ↦[Finset.univ \ rowSet d L T (ws i).toNat]{Transfers.shareTokN q i} f)))
      ⊢ bigSep (Finset.range n) (fun i => (T.view.loc (tl d L) ↦{Transfers.shareTokN q i} f : sProp 𝕄)) from
    bigSep_mono fun i _ => (pointsTo_split_subset (q := Transfers.shareTokN q i) (f := f) (Finset.subset_univ (rowSet d L T (ws i).toNat))).2) $$ H
  iexact H'

/-- A token taken for one more copy: the row it reads, and what it leaves. -/
theorem tab_take (T : Memref sig .scVector .hbm S100000x64 .f32) (q : PosShare TreeShare) (f : Buf (Elt F) (T.view.loc (tl d L))) (n : ℕ) :
    (tab d L ws T q f n : sProp 𝕄) ⊢ iprop(tabRow d L ws T q f n ∗ tab d L ws T q f (n + 1)) := by
  unfold tab tabRow
  rw [bigSep_range_succ]
  iintro ⟨Hd, Ht⟩
  ihave H := (show (T.view.loc (tl d L) ↦{Transfers.shareDrop q n} f : sProp 𝕄)
      ⊢ iprop((T.view.loc (tl d L) ↦{Transfers.shareDrop q (n + 1)} f) ∗ T.view.loc (tl d L) ↦{Transfers.shareTokN q n} f) from
    (pointsTo_share (PosShare.mem_left_op_right _)).1) $$ Hd
  icases H with ⟨Hl, Hr⟩
  ihave H := (pointsTo_split_subset (q := Transfers.shareTokN q n) (f := f) (Finset.subset_univ (rowSet d L T (ws n).toNat))).1 $$ Hr
  icases H with ⟨Hr, Hx⟩
  isplitl [Hr]; · iexact Hr
  isplitl [Hl]; · iexact Hl
  isplitl [Hx]; · iexact Hx
  iexact Ht

/-! ## What the copies leave -/

variable (qh qv : PosShare TreeShare) (fh fv : S100000x64.Idx → Elt F .f32)

/-- The row scratch once every copy has landed: row `i` is row `ws i` of `hidden`, then row `ws i` of `variance`. -/
def landed : S512x128.Idx → Elt F .f32 := fun y =>
  if h : (y 1).val < 64 then fh (ix2 ⟨(ws (y 0).val).toNat % 100000, Nat.mod_lt _ (by decide)⟩ ⟨(y 1).val, h⟩)
  else fv (ix2 ⟨(ws (y 0).val).toNat % 100000, Nat.mod_lt _ (by decide)⟩ ⟨(y 1).val - 64, by have := idx2_lt1 y; omega⟩)

/-- What copy `2 i` delivers, -/
def dH (i : ℕ) : sProp 𝕄 :=
  iprop(((rV).view.loc (tl d L) ↦[piece (2 * i)]{fullShare} (landed ws fh fv)) ∗ tabRow d L ws hV qh fh i)
/-- and copy `2 i + 1`; -/
def dV (i : ℕ) : sProp 𝕄 :=
  iprop(((rV).view.loc (tl d L) ↦[piece (2 * i + 1)]{fullShare} (landed ws fh fv)) ∗ tabRow d L ws vV qv fv i)
/-- copy by copy. -/
def deliv : Fin (2 * 512) → sProp 𝕄 := Ring.interleaved 512 (dH d L ws qh fh fv) (dV d L ws qv fh fv)

instance dH_storable (i : ℕ) : Storable (upEmb : UEmb _ 𝕄) (dH d L ws qh fh fv i) := by unfold dH tabRow; infer_instance
instance dV_storable (i : ℕ) : Storable (upEmb : UEmb _ 𝕄) (dV d L ws qv fh fv i) := by unfold dV tabRow; infer_instance
instance deliv_storable (t : Fin (2 * 512)) : Storable (upEmb : UEmb _ 𝕄) (deliv d L ws qh qv fh fv t) := by unfold deliv; infer_instance

variable (f7 : Buf (Elt F) ((rV).view.loc (tl d L)))

/-- The units a row copy credits. -/
abbrev rowN : ℕ := sig.dmaCredit .scVector (Kind.scVector.table .vmem) cc0_scratch1.idx S64 .f32
theorem rowN_pos : 0 < rowN := sig.dmaCredit_pos _ _ _ _ _ (by decide)

/-- The batch of copies, `j` of them issued and `u` units waited for. -/
abbrev batch (j u : ℕ) : sProp 𝕄 :=
  Transfers.Batch countersEmb (tl d L) (.dma cc0_scratch2.sem) (default : HIx 1) rowN (deliv d L ws qh qv fh fv) j u

/-- The tile before copy `j`. -/
def St (j : ℕ) : sProp 𝕄 :=
  iprop(tab d L ws hV qh fh ((j + 1) / 2) ∗ tab d L ws vV qv fv (j / 2)
    ∗ ((rV).view.loc (tl d L) ↦[rest j]{fullShare} f7) ∗ batch d L ws qh qv fh fv j 0)

theorem amount_dstRow (o hb) : (dstRow o hb).view.amount (.dma cc0_scratch2.sem : SemLoc sig) = rowN := rfl

variable [FloatOps F]

/-- The scratch with a half row overwritten by `w`. -/
abbrev dstW (o : Fin 2 → ℕ) (hb) (g : Buf (Elt F) ((dstRow o hb).view.loc (tl d L))) (w : S64.Idx → Elt F .f32) : Buf (Elt F) ((dstRow o hb).view.loc (tl d L)) :=
  (dstRow o hb).view.write (Elt F) g w Finset.univ

/-- The values copy `2 i` writes are `landed`'s. -/
theorem landed_H (i : ℕ) (hi : i < 512) (hw : (ws i).toNat < 100000) (hbs)
    (hbd : ∀ a, (![i, 64 * 0] : Fin 2 → ℕ) a + S1x64.size a ≤ S512x128.size a) (y : Idx ((rV).view.loc (tl d L))) (hy : y ∈ piece (2 * i)) :
    dstW d L ![i, 64 * 0] hbd f7 (ReadAs.same.apply ((srcRow hV ![(ws i).toNat, 0] hbs).view.read (Elt F) fh)) y
      = landed ws fh fv y := by
  rw [show piece (2 * i) = (dstRow ![i, 64 * 0] hbd).view.set from (dstRow_set i 0 hi (by omega) hbd).symm] at hy
  obtain ⟨x, -, rfl⟩ := Finset.mem_map.mp hy
  have hx : (x 0).val < 64 := (x 0).isLt
  refine (View.write_emb_of_mem _ _ (Finset.mem_univ x)).trans ?_
  refine (cast_eq _ _).trans ?_
  refine (View.read_apply _ _).trans ((cast_eq _ _).trans ?_)
  rw [srcRow_emb hV _ hw, dstRow_emb i (64 * 0) hi (by omega)]
  unfold landed
  rw [dif_pos (show 64 * 0 + (x 0).val < 64 by omega)]
  show fh _ = fh _
  congr 1
  funext a
  refine Fin.ext ?_
  match a with
  | ⟨0, _⟩ => exact (Nat.mod_eq_of_lt hw).symm
  | ⟨1, _⟩ => show (x 0).val = 64 * 0 + (x 0).val; omega

/-- The values copy `2 i + 1` writes are `landed`'s. -/
theorem landed_V (i : ℕ) (hi : i < 512) (hw : (ws i).toNat < 100000) (hbs)
    (hbd : ∀ a, (![i, 64 * 1] : Fin 2 → ℕ) a + S1x64.size a ≤ S512x128.size a) (y : Idx ((rV).view.loc (tl d L))) (hy : y ∈ piece (2 * i + 1)) :
    dstW d L ![i, 64 * 1] hbd f7 (ReadAs.same.apply ((srcRow vV ![(ws i).toNat, 0] hbs).view.read (Elt F) fv)) y
      = landed ws fh fv y := by
  rw [show piece (2 * i + 1) = (dstRow ![i, 64 * 1] hbd).view.set from (dstRow_set i 1 hi (by omega) hbd).symm] at hy
  obtain ⟨x, -, rfl⟩ := Finset.mem_map.mp hy
  have hx : (x 0).val < 64 := (x 0).isLt
  refine (View.write_emb_of_mem _ _ (Finset.mem_univ x)).trans ?_
  refine (cast_eq _ _).trans ?_
  refine (View.read_apply _ _).trans ((cast_eq _ _).trans ?_)
  rw [srcRow_emb vV _ hw, dstRow_emb i (64 * 1) hi (by omega)]
  unfold landed
  rw [dif_neg (show ¬64 * 1 + (x 0).val < 64 by omega)]
  show fv _ = fv _
  congr 1
  funext a
  refine Fin.ext ?_
  match a with
  | ⟨0, _⟩ => exact (Nat.mod_eq_of_lt hw).symm
  | ⟨1, _⟩ => show (x 0).val = 64 * 1 + (x 0).val - 64; omega

theorem rowSet_eq (T : Memref sig .scVector .hbm S100000x64 .f32) (r : ℕ) (hb) : rowSet d L T r = (srcRow T ![r, 0] hb).view.set := dif_pos hb

/-- Issuing copy `2 i`. -/
theorem issue_H (i : ℕ) (hi : i < 512) (os od : Fin 2 → ℕ) (hbs hbd) (hos : os = ![(ws i).toNat, 0]) (hod : od = ![i, 64 * 0]) (hw : (ws i).toNat < 100000)
    {hsrc : (srcRow hV os hbs).view.WordExact} {hdst : (dstRow od hbd).view.WordExact} {hsem}
    {Q : PUnit → sProp 𝕄} :
    St d L ws qh qv fh fv f7 (2 * i)
      ⊢ iprop((St d L ws qh qv fh fv f7 (2 * i + 1) -∗ Q ⟨⟩)
        -∗ wp frame (wpE (defs₀ (F := F)) 𝒱₀ (tl d L) none) Set.univ
          (Prog.lift (.enqueueDma (srcRow hV os hbs) (.here (dstRow od hbd)) (.dma cc0_scratch2.sem) hsrc hdst hsem)) Q) := by
  subst hos hod
  unfold St
  rw [show (2 * i + 1 + 1) / 2 = i + 1 by omega, show (2 * i + 1) / 2 = i by omega, show 2 * i / 2 = i by omega]
  iintro ⟨Hh, Hv, Hr, HB⟩ Hk
  ihave H := (tab_take d L ws hV qh fh i) $$ Hh
  icases H with ⟨Hrow, Hh⟩
  unfold tabRow
  rw [rowSet_eq d L hV _ hbs, rest_step (2 * i)]
  ihave H := (pointsTo_union (piece_disjoint_rest (2 * i))).1 $$ Hr
  icases H with ⟨Hp, Hr⟩
  have hD : iprop(((dstRow ![i, 64 * 0] hbd).view.loc (tl d L) ↦[piece (2 * i)]{fullShare}
          ((dstRow ![i, 64 * 0] hbd).view.write (Elt F) f7 (ReadAs.same.apply ((srcRow hV ![(ws i).toNat, 0] hbs).view.read (Elt F) fh)) Finset.univ))
        ∗ ((srcRow hV ![(ws i).toNat, 0] hbs).view.loc (tl d L) ↦[(srcRow hV ![(ws i).toNat, 0] hbs).view.set]{Transfers.shareTokN qh i} fh))
      ⊢ (deliv d L ws qh qv fh fv ⟨2 * i, by omega⟩ : sProp 𝕄) := by
    unfold deliv
    rw [Ring.interleaved_even]
    unfold dH tabRow
    rw [rowSet_eq d L hV _ hbs]
    refine sep_mono (Entails.of_eq (pointsTo_congr fun y hy => landed_H d L ws fh fv f7 i hi hw hbs hbd y hy)) .rfl
  iapply (Transfers.wp_dmaBatch countersEmb 𝒱₀ (tl d L) none (default : HIx 1) rowN (amount_dstRow _ hbd)
    (subset_of_eq (dstRow_set i 0 hi (by omega) hbd)) (by omega) (Nat.zero_le _) hD) $$ [Hrow Hp HB]
  · isplitl [Hrow]; · iexact Hrow
    isplitl [Hp]; · iexact Hp
    iexact HB
  iintro HB
  rw [wp_ret]; imodintro
  iapply Hk
  isplitl [Hh]; · iexact Hh
  isplitl [Hv]; · iexact Hv
  isplitl [Hr]; · iexact Hr
  iexact HB

/-- Issuing copy `2 i + 1`. -/
theorem issue_V (i : ℕ) (hi : i < 512) (os od : Fin 2 → ℕ) (hbs hbd) (hos : os = ![(ws i).toNat, 0]) (hod : od = ![i, 64 * 1]) (hw : (ws i).toNat < 100000)
    {hsrc : (srcRow vV os hbs).view.WordExact} {hdst : (dstRow od hbd).view.WordExact} {hsem}
    {Q : PUnit → sProp 𝕄} :
    St d L ws qh qv fh fv f7 (2 * i + 1)
      ⊢ iprop((St d L ws qh qv fh fv f7 (2 * (i + 1)) -∗ Q ⟨⟩)
        -∗ wp frame (wpE (defs₀ (F := F)) 𝒱₀ (tl d L) none) Set.univ
          (Prog.lift (.enqueueDma (srcRow vV os hbs) (.here (dstRow od hbd)) (.dma cc0_scratch2.sem) hsrc hdst hsem)) Q) := by
  subst hos hod
  unfold St
  rw [show (2 * i + 1 + 1) / 2 = i + 1 by omega, show (2 * i + 1) / 2 = i by omega, show (2 * (i + 1) + 1) / 2 = i + 1 by omega, show 2 * (i + 1) / 2 = i + 1 by omega,
    show 2 * (i + 1) = 2 * i + 1 + 1 by omega]
  iintro ⟨Hh, Hv, Hr, HB⟩ Hk
  ihave H := (tab_take d L ws vV qv fv i) $$ Hv
  icases H with ⟨Hrow, Hv⟩
  unfold tabRow
  rw [rowSet_eq d L vV _ hbs, rest_step (2 * i + 1)]
  ihave H := (pointsTo_union (piece_disjoint_rest (2 * i + 1))).1 $$ Hr
  icases H with ⟨Hp, Hr⟩
  have hD : iprop(((dstRow ![i, 64 * 1] hbd).view.loc (tl d L) ↦[piece (2 * i + 1)]{fullShare}
          ((dstRow ![i, 64 * 1] hbd).view.write (Elt F) f7 (ReadAs.same.apply ((srcRow vV ![(ws i).toNat, 0] hbs).view.read (Elt F) fv)) Finset.univ))
        ∗ ((srcRow vV ![(ws i).toNat, 0] hbs).view.loc (tl d L) ↦[(srcRow vV ![(ws i).toNat, 0] hbs).view.set]{Transfers.shareTokN qv i} fv))
      ⊢ (deliv d L ws qh qv fh fv ⟨2 * i + 1, by omega⟩ : sProp 𝕄) := by
    unfold deliv
    rw [Ring.interleaved_odd]
    unfold dV tabRow
    rw [rowSet_eq d L vV _ hbs]
    refine sep_mono (Entails.of_eq (pointsTo_congr fun y hy => landed_V d L ws fh fv f7 i hi hw hbs hbd y hy)) .rfl
  iapply (Transfers.wp_dmaBatch countersEmb 𝒱₀ (tl d L) none (default : HIx 1) rowN (amount_dstRow _ hbd)
    (subset_of_eq (dstRow_set i 1 hi (by omega) hbd)) (by omega) (Nat.zero_le _) hD) $$ [Hrow Hp HB]
  · isplitl [Hrow]; · iexact Hrow
    isplitl [Hp]; · iexact Hp
    iexact HB
  iintro HB
  rw [wp_ret]; imodintro
  iapply Hk
  isplitl [Hh]; · iexact Hh
  isplitl [Hv]; · iexact Hv
  isplitl [Hr]; · iexact Hr
  iexact HB

end Copies

end Cert.Proof.Mem

end
-- ==== Proof.Parts.lean ====
/-
  The sixteen rows a trip of the issue loop copies, part by part as the program is printed: each part moves the state
  along by the copies it issues and returns the row number the next part starts from.
-/
module

public import proofs.«01_k».proof.Proof.Rows

@[expose] public section

noncomputable section

namespace Cert.Proof.Mem

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

section Parts

variable (d : Dev nD) (L : grid0.Coords) (ws : ℕ → BitVec 32)
variable (qh qv : PosShare TreeShare) (fh fv : S100000x64.Idx → Elt F .f32)
variable (f7 : Buf (Elt F) ((rV).view.loc (tl d L)))

/-- The sixteen row numbers of trip `t`. -/
def lanes (ws : ℕ → BitVec 32) (t : ℕ) : IVec S16 32 := fun x => ws (16 * t + (x 0).val)

variable [FloatOps F]

/-- A check that holds is passed. -/
theorem pass {P : Prop} {dec : Decidable P} (h : P) {Q : PLift P → sProp 𝕄} :
    Q ⟨h⟩ ⊢ wp frame (wpE (defs₀ (F := F)) 𝒱₀ (tl d L) none) Set.univ (Prog.lift (.assume P dec)) Q := by
  iintro H
  iapply (wp_assume 𝒱₀ (tl d L) none Set.univ h)
  rw [wp_ret]; imodintro
  iexact H

/-- A program that only returns meets its postcondition. -/
theorem done {α : Type} {a : α} {Q : α → sProp 𝕄} :
    Q a ⊢ wp frame (wpE (defs₀ (F := F)) 𝒱₀ (tl d L) none) Set.univ (pure a : Prog (TpuEff nD τ sig (Elt F) Λ₀ (tl d L).2) α) Q :=
  le_wp_ret frame _ _ a Q

/-- A row number below the table's height passes its check. -/
theorem inb_row {v w : BitVec 32} (e : v = w) (h : w.toNat < 100000) : ∀ a, (![v.toNat, 0] : Fin 2 → ℕ) a + S1x64.size a ≤ S100000x64.size a := by
  subst e
  intro a
  match a with
  | 0 => show v.toNat + 1 ≤ 100000; omega
  | 1 => show 0 + 64 ≤ 64; omega

theorem off_row {v w : BitVec 32} (e : v = w) : (![v.toNat, 0] : Fin 2 → ℕ) = ![w.toNat, 0] := by rw [e]

theorem lane_0 (t : ℕ) : extractAt ![0] (k0_pay2 (F := F) (lanes ws t)) inpos_S1_p0 = ws (16 * t + 0) := rfl
theorem lane_1 (t : ℕ) : extractAt ![0] (k0_pay3 (F := F) (lanes ws t)) inpos_S1_p0 = ws (16 * t + 1) := rfl
theorem lane_2 (t : ℕ) : extractAt ![0] (k0_pay4 (lanes ws t)) inpos_S1_p0 = ws (16 * t + 2) := rfl
theorem lane_3 (t : ℕ) : extractAt ![0] (k0_pay5 (lanes ws t)) inpos_S1_p0 = ws (16 * t + 3) := rfl
theorem lane_4 (t : ℕ) : extractAt ![0] (k0_pay6 (lanes ws t)) inpos_S1_p0 = ws (16 * t + 4) := rfl
theorem lane_5 (t : ℕ) : extractAt ![0] (k0_pay7 (lanes ws t)) inpos_S1_p0 = ws (16 * t + 5) := rfl
theorem lane_6 (t : ℕ) : extractAt ![0] (k0_pay8 (lanes ws t)) inpos_S1_p0 = ws (16 * t + 6) := rfl
theorem lane_7 (t : ℕ) : extractAt ![0] (k0_pay9 (lanes ws t)) inpos_S1_p0 = ws (16 * t + 7) := rfl
theorem lane_8 (t : ℕ) : extractAt ![0] (k0_pay10 (lanes ws t)) inpos_S1_p0 = ws (16 * t + 8) := rfl
theorem lane_9 (t : ℕ) : extractAt ![0] (k0_pay11 (lanes ws t)) inpos_S1_p0 = ws (16 * t + 9) := rfl
theorem lane_10 (t : ℕ) : extractAt ![0] (k0_pay12 (lanes ws t)) inpos_S1_p0 = ws (16 * t + 10) := rfl
theorem lane_11 (t : ℕ) : extractAt ![0] (k0_pay13 (lanes ws t)) inpos_S1_p0 = ws (16 * t + 11) := rfl
theorem lane_12 (t : ℕ) : extractAt ![0] (k0_pay14 (lanes ws t)) inpos_S1_p0 = ws (16 * t + 12) := rfl
theorem lane_13 (t : ℕ) : extractAt ![0] (k0_pay15 (lanes ws t)) inpos_S1_p0 = ws (16 * t + 13) := rfl
theorem lane_14 (t : ℕ) : extractAt ![0] (k0_pay16 (lanes ws t)) inpos_S1_p0 = ws (16 * t + 14) := rfl
theorem lane_15 (t : ℕ) : extractAt ![0] (k0_pay17 (lanes ws t)) inpos_S1_p0 = ws (16 * t + 15) := rfl

theorem pay1_lanes (t : ℕ) : k0_pay1 (F := F) (lanes ws t) = lanes ws t := funext fun i => congrArg (lanes ws t) (Shape.reshapeEquiv_self _ i)

/-- What a trip loads from the index scratch is its sixteen row numbers. -/
theorem read_lanes (f6 : Buf (Elt F) ((sV).view.loc (tl d L))) (hf6 : ∀ y : S512.Idx, f6 y = ws (y 0).val) (t : Fin k0_t1_loop.trips) (hb) :
    (sV).view.readAt (Elt F) (Rect.unit (s := S512) (k0_off2 t) S16.size hb).toLoadRect f6 = lanes ws t.val := by
  funext x
  refine (hf6 _).trans ?_
  unfold lanes
  congr 1
  show k0_off2 t 0 + 1 * (x 0).val = _
  have h : k0_off2 t 0 = 16 * t.val := congrFun (k0_off2_eq t) 0
  omega

variable (hws : ∀ i, i < 512 → (ws i).toNat < 100000) (t : Fin k0_t1_loop.trips)
include hws

set_option maxHeartbeats 4000000 in
theorem part1 (f6 : Buf (Elt F) ((sV).view.loc (tl d L))) (hf6 : ∀ y : S512.Idx, f6 y = ws (y 0).val) :
    iprop(((sV).view.loc (tl d L) ↦{fullShare} f6) ∗ St d L ws qh qv fh fv f7 (2 * (16 * t.val)))
      ⊢ wp frame (wpE (defs₀ (F := F)) 𝒱₀ (tl d L) none) Set.univ
          (k0_part1 L hV (Memref.isWhole_whole _) vV (Memref.isWhole_whole _) iV (Memref.isWhole_whole _) oV (Memref.isWhole_whole _)
            sV (Memref.isWhole_whole _) rV (Memref.isWhole_whole _) cc0_scratch2 cc0_scoped0 cc0_scoped1 0#32 1#32 t)
          fun x => iprop(⌜x.2.1 = lanes ws t.val ∧ x.2.2.1 = ws (16 * t.val + 1)⌝ ∗ ((sV).view.loc (tl d L) ↦{fullShare} f6) ∗ St d L ws qh qv fh fv f7 (2 * (16 * t.val + 1) + 1)) := by
  have ht : t.val < 32 := t.isLt
  rw [k0_part1_eq_skeleton]; unfold k0_part1_skel
  simp only [wp_bind]
  iintro ⟨Hf, HS⟩
  iapply (wp_load 𝒱₀ (tl d L) none Set.univ (m := sV) (Finset.subset_univ _)) $$ Hf
  iintro Hf
  rw [wp_ret]; imodintro
  rw [read_lanes d L ws f6 hf6 t]
  iapply (pass d L (show k0_chk1 _ from inb_row (lane_0 (F := F) ws t.val) (hws _ (by omega))))
  iapply (issue_H d L ws qh qv fh fv f7 (16 * t.val) (by omega) _ _ _ _ (off_row (lane_0 (F := F) ws t.val)) (k0_off5_eq t ⟨0, by decide⟩) (hws _ (by omega))) $$ HS
  iintro HS
  iapply (issue_V d L ws qh qv fh fv f7 (16 * t.val) (by omega) _ _ _ _ (off_row (lane_0 (F := F) ws t.val)) (k0_off6_eq t) (hws _ (by omega))) $$ HS
  iintro HS
  iapply (pass d L (show k0_chk2 _ from inb_row (lane_1 (F := F) ws t.val) (hws _ (by omega))))
  iapply (issue_H d L ws qh qv fh fv f7 (16 * t.val + 1) (by omega) _ _ _ _ (off_row (lane_1 (F := F) ws t.val)) (k0_off8_eq t ⟨0, by decide⟩) (hws _ (by omega))) $$ HS
  iintro HS
  iapply (done d L)
  isplitr; · ipureintro; exact ⟨pay1_lanes (F := F) ws t.val, lane_1 (F := F) ws t.val⟩
  isplitl [Hf]; · iexact Hf
  iexact HS

set_option maxHeartbeats 4000000 in
theorem part2 (a9 : BitVec 32) (v : BitVec 32) (hv : v = ws (16 * t.val + 1)) (hw : k0_chk2 v) :
    St d L ws qh qv fh fv f7 (2 * (16 * t.val + 1) + 1)
      ⊢ wp frame (wpE (defs₀ (F := F)) 𝒱₀ (tl d L) none) Set.univ
          (k0_part2 L hV (Memref.isWhole_whole _) vV (Memref.isWhole_whole _) iV (Memref.isWhole_whole _) oV (Memref.isWhole_whole _)
            sV (Memref.isWhole_whole _) rV (Memref.isWhole_whole _) cc0_scratch2 cc0_scoped0 cc0_scoped1 t a9 (lanes ws t.val) v hw)
          fun x => iprop(⌜x.1 = ws (16 * t.val + 3)⌝ ∗ St d L ws qh qv fh fv f7 (2 * (16 * t.val + 3))) := by
  have ht : t.val < 32 := t.isLt
  rw [k0_part2_eq_skeleton]; unfold k0_part2_skel
  simp only [wp_bind]
  iintro HS
  iapply (issue_V d L ws qh qv fh fv f7 (16 * t.val + 1) (by omega) _ _ _ _ (off_row (hv)) (k0_off9_eq t) (hws _ (by omega))) $$ HS
  iintro HS
  iapply (pass d L (show k0_chk3 _ from inb_row (lane_2 ws t.val) (hws _ (by omega))))
  iapply (issue_H d L ws qh qv fh fv f7 (16 * t.val + 2) (by omega) _ _ _ _ (off_row (lane_2 ws t.val)) (k0_off11_eq t ⟨0, by decide⟩) (hws _ (by omega))) $$ HS
  iintro HS
  iapply (issue_V d L ws qh qv fh fv f7 (16 * t.val + 2) (by omega) _ _ _ _ (off_row (lane_2 ws t.val)) (k0_off12_eq t) (hws _ (by omega))) $$ HS
  iintro HS
  iapply (pass d L (show k0_chk4 _ from inb_row (lane_3 ws t.val) (hws _ (by omega))))
  iapply (done d L)
  isplitr; · ipureintro; exact lane_3 ws t.val
  iexact HS

set_option maxHeartbeats 4000000 in
theorem part3 (a9 : BitVec 32) (v : BitVec 32) (hv : v = ws (16 * t.val + 3)) (hw : k0_chk4 v) :
    St d L ws qh qv fh fv f7 (2 * (16 * t.val + 3))
      ⊢ wp frame (wpE (defs₀ (F := F)) 𝒱₀ (tl d L) none) Set.univ
          (k0_part3 L hV (Memref.isWhole_whole _) vV (Memref.isWhole_whole _) iV (Memref.isWhole_whole _) oV (Memref.isWhole_whole _)
            sV (Memref.isWhole_whole _) rV (Memref.isWhole_whole _) cc0_scratch2 cc0_scoped0 cc0_scoped1 t a9 (lanes ws t.val) v hw)
          fun x => iprop(⌜x.1 = ws (16 * t.val + 5)⌝ ∗ St d L ws qh qv fh fv f7 (2 * (16 * t.val + 5))) := by
  have ht : t.val < 32 := t.isLt
  rw [k0_part3_eq_skeleton]; unfold k0_part3_skel
  simp only [wp_bind]
  iintro HS
  iapply (issue_H d L ws qh qv fh fv f7 (16 * t.val + 3) (by omega) _ _ _ _ (off_row (hv)) (k0_off14_eq t ⟨0, by decide⟩) (hws _ (by omega))) $$ HS
  iintro HS
  iapply (issue_V d L ws qh qv fh fv f7 (16 * t.val + 3) (by omega) _ _ _ _ (off_row (hv)) (k0_off15_eq t) (hws _ (by omega))) $$ HS
  iintro HS
  iapply (pass d L (show k0_chk5 _ from inb_row (lane_4 ws t.val) (hws _ (by omega))))
  iapply (issue_H d L ws qh qv fh fv f7 (16 * t.val + 4) (by omega) _ _ _ _ (off_row (lane_4 ws t.val)) (k0_off17_eq t ⟨0, by decide⟩) (hws _ (by omega))) $$ HS
  iintro HS
  iapply (issue_V d L ws qh qv fh fv f7 (16 * t.val + 4) (by omega) _ _ _ _ (off_row (lane_4 ws t.val)) (k0_off18_eq t) (hws _ (by omega))) $$ HS
  iintro HS
  iapply (pass d L (show k0_chk6 _ from inb_row (lane_5 ws t.val) (hws _ (by omega))))
  iapply (done d L)
  isplitr; · ipureintro; exact lane_5 ws t.val
  iexact HS

set_option maxHeartbeats 4000000 in
theorem part4 (a9 : BitVec 32) (v : BitVec 32) (hv : v = ws (16 * t.val + 5)) (hw : k0_chk6 v) :
    St d L ws qh qv fh fv f7 (2 * (16 * t.val + 5))
      ⊢ wp frame (wpE (defs₀ (F := F)) 𝒱₀ (tl d L) none) Set.univ
          (k0_part4 L hV (Memref.isWhole_whole _) vV (Memref.isWhole_whole _) iV (Memref.isWhole_whole _) oV (Memref.isWhole_whole _)
            sV (Memref.isWhole_whole _) rV (Memref.isWhole_whole _) cc0_scratch2 cc0_scoped0 cc0_scoped1 t a9 (lanes ws t.val) v hw)
          fun x => iprop(⌜x.1 = ws (16 * t.val + 7)⌝ ∗ St d L ws qh qv fh fv f7 (2 * (16 * t.val + 7))) := by
  have ht : t.val < 32 := t.isLt
  rw [k0_part4_eq_skeleton]; unfold k0_part4_skel
  simp only [wp_bind]
  iintro HS
  iapply (issue_H d L ws qh qv fh fv f7 (16 * t.val + 5) (by omega) _ _ _ _ (off_row (hv)) (k0_off20_eq t ⟨0, by decide⟩) (hws _ (by omega))) $$ HS
  iintro HS
  iapply (issue_V d L ws qh qv fh fv f7 (16 * t.val + 5) (by omega) _ _ _ _ (off_row (hv)) (k0_off21_eq t) (hws _ (by omega))) $$ HS
  iintro HS
  iapply (pass d L (show k0_chk7 _ from inb_row (lane_6 ws t.val) (hws _ (by omega))))
  iapply (issue_H d L ws qh qv fh fv f7 (16 * t.val + 6) (by omega) _ _ _ _ (off_row (lane_6 ws t.val)) (k0_off23_eq t ⟨0, by decide⟩) (hws _ (by omega))) $$ HS
  iintro HS
  iapply (issue_V d L ws qh qv fh fv f7 (16 * t.val + 6) (by omega) _ _ _ _ (off_row (lane_6 ws t.val)) (k0_off24_eq t) (hws _ (by omega))) $$ HS
  iintro HS
  iapply (pass d L (show k0_chk8 _ from inb_row (lane_7 ws t.val) (hws _ (by omega))))
  iapply (done d L)
  isplitr; · ipureintro; exact lane_7 ws t.val
  iexact HS

set_option maxHeartbeats 4000000 in
theorem part5 (a9 : BitVec 32) (v : BitVec 32) (hv : v = ws (16 * t.val + 7)) (hw : k0_chk8 v) :
    St d L ws qh qv fh fv f7 (2 * (16 * t.val + 7))
      ⊢ wp frame (wpE (defs₀ (F := F)) 𝒱₀ (tl d L) none) Set.univ
          (k0_part5 L hV (Memref.isWhole_whole _) vV (Memref.isWhole_whole _) iV (Memref.isWhole_whole _) oV (Memref.isWhole_whole _)
            sV (Memref.isWhole_whole _) rV (Memref.isWhole_whole _) cc0_scratch2 cc0_scoped0 cc0_scoped1 t a9 (lanes ws t.val) v hw)
          fun x => iprop(⌜x.1 = ws (16 * t.val + 8)⌝ ∗ St d L ws qh qv fh fv f7 (2 * (16 * t.val + 8) + 1)) := by
  have ht : t.val < 32 := t.isLt
  rw [k0_part5_eq_skeleton]; unfold k0_part5_skel
  simp only [wp_bind]
  iintro HS
  iapply (issue_H d L ws qh qv fh fv f7 (16 * t.val + 7) (by omega) _ _ _ _ (off_row (hv)) (k0_off26_eq t ⟨0, by decide⟩) (hws _ (by omega))) $$ HS
  iintro HS
  iapply (issue_V d L ws qh qv fh fv f7 (16 * t.val + 7) (by omega) _ _ _ _ (off_row (hv)) (k0_off27_eq t) (hws _ (by omega))) $$ HS
  iintro HS
  iapply (pass d L (show k0_chk9 _ from inb_row (lane_8 ws t.val) (hws _ (by omega))))
  iapply (issue_H d L ws qh qv fh fv f7 (16 * t.val + 8) (by omega) _ _ _ _ (off_row (lane_8 ws t.val)) (k0_off29_eq t ⟨0, by decide⟩) (hws _ (by omega))) $$ HS
  iintro HS
  iapply (done d L)
  isplitr; · ipureintro; exact lane_8 ws t.val
  iexact HS

set_option maxHeartbeats 4000000 in
theorem part6 (a9 : BitVec 32) (v : BitVec 32) (hv : v = ws (16 * t.val + 8)) (hw : k0_chk9 v) :
    St d L ws qh qv fh fv f7 (2 * (16 * t.val + 8) + 1)
      ⊢ wp frame (wpE (defs₀ (F := F)) 𝒱₀ (tl d L) none) Set.univ
          (k0_part6 L hV (Memref.isWhole_whole _) vV (Memref.isWhole_whole _) iV (Memref.isWhole_whole _) oV (Memref.isWhole_whole _)
            sV (Memref.isWhole_whole _) rV (Memref.isWhole_whole _) cc0_scratch2 cc0_scoped0 cc0_scoped1 t a9 (lanes ws t.val) v hw)
          fun x => iprop(⌜x.1 = ws (16 * t.val + 10)⌝ ∗ St d L ws qh qv fh fv f7 (2 * (16 * t.val + 10) + 1)) := by
  have ht : t.val < 32 := t.isLt
  rw [k0_part6_eq_skeleton]; unfold k0_part6_skel
  simp only [wp_bind]
  iintro HS
  iapply (issue_V d L ws qh qv fh fv f7 (16 * t.val + 8) (by omega) _ _ _ _ (off_row (hv)) (k0_off30_eq t) (hws _ (by omega))) $$ HS
  iintro HS
  iapply (pass d L (show k0_chk10 _ from inb_row (lane_9 ws t.val) (hws _ (by omega))))
  iapply (issue_H d L ws qh qv fh fv f7 (16 * t.val + 9) (by omega) _ _ _ _ (off_row (lane_9 ws t.val)) (k0_off32_eq t ⟨0, by decide⟩) (hws _ (by omega))) $$ HS
  iintro HS
  iapply (issue_V d L ws qh qv fh fv f7 (16 * t.val + 9) (by omega) _ _ _ _ (off_row (lane_9 ws t.val)) (k0_off33_eq t) (hws _ (by omega))) $$ HS
  iintro HS
  iapply (pass d L (show k0_chk11 _ from inb_row (lane_10 ws t.val) (hws _ (by omega))))
  iapply (issue_H d L ws qh qv fh fv f7 (16 * t.val + 10) (by omega) _ _ _ _ (off_row (lane_10 ws t.val)) (k0_off35_eq t ⟨0, by decide⟩) (hws _ (by omega))) $$ HS
  iintro HS
  iapply (done d L)
  isplitr; · ipureintro; exact lane_10 ws t.val
  iexact HS

set_option maxHeartbeats 4000000 in
theorem part7 (a9 : BitVec 32) (v : BitVec 32) (hv : v = ws (16 * t.val + 10)) (hw : k0_chk11 v) :
    St d L ws qh qv fh fv f7 (2 * (16 * t.val + 10) + 1)
      ⊢ wp frame (wpE (defs₀ (F := F)) 𝒱₀ (tl d L) none) Set.univ
          (k0_part7 L hV (Memref.isWhole_whole _) vV (Memref.isWhole_whole _) iV (Memref.isWhole_whole _) oV (Memref.isWhole_whole _)
            sV (Memref.isWhole_whole _) rV (Memref.isWhole_whole _) cc0_scratch2 cc0_scoped0 cc0_scoped1 t a9 (lanes ws t.val) v hw)
          fun x => iprop(⌜x.1 = ws (16 * t.val + 12)⌝ ∗ St d L ws qh qv fh fv f7 (2 * (16 * t.val + 12))) := by
  have ht : t.val < 32 := t.isLt
  rw [k0_part7_eq_skeleton]; unfold k0_part7_skel
  simp only [wp_bind]
  iintro HS
  iapply (issue_V d L ws qh qv fh fv f7 (16 * t.val + 10) (by omega) _ _ _ _ (off_row (hv)) (k0_off36_eq t) (hws _ (by omega))) $$ HS
  iintro HS
  iapply (pass d L (show k0_chk12 _ from inb_row (lane_11 ws t.val) (hws _ (by omega))))
  iapply (issue_H d L ws qh qv fh fv f7 (16 * t.val + 11) (by omega) _ _ _ _ (off_row (lane_11 ws t.val)) (k0_off38_eq t ⟨0, by decide⟩) (hws _ (by omega))) $$ HS
  iintro HS
  iapply (issue_V d L ws qh qv fh fv f7 (16 * t.val + 11) (by omega) _ _ _ _ (off_row (lane_11 ws t.val)) (k0_off39_eq t) (hws _ (by omega))) $$ HS
  iintro HS
  iapply (pass d L (show k0_chk13 _ from inb_row (lane_12 ws t.val) (hws _ (by omega))))
  iapply (done d L)
  isplitr; · ipureintro; exact lane_12 ws t.val
  iexact HS

set_option maxHeartbeats 4000000 in
theorem part8 (a9 : BitVec 32) (v : BitVec 32) (hv : v = ws (16 * t.val + 12)) (hw : k0_chk13 v) :
    St d L ws qh qv fh fv f7 (2 * (16 * t.val + 12))
      ⊢ wp frame (wpE (defs₀ (F := F)) 𝒱₀ (tl d L) none) Set.univ
          (k0_part8 L hV (Memref.isWhole_whole _) vV (Memref.isWhole_whole _) iV (Memref.isWhole_whole _) oV (Memref.isWhole_whole _)
            sV (Memref.isWhole_whole _) rV (Memref.isWhole_whole _) cc0_scratch2 cc0_scoped0 cc0_scoped1 t a9 (lanes ws t.val) v hw)
          fun x => iprop(⌜x.1 = ws (16 * t.val + 14)⌝ ∗ St d L ws qh qv fh fv f7 (2 * (16 * t.val + 14))) := by
  have ht : t.val < 32 := t.isLt
  rw [k0_part8_eq_skeleton]; unfold k0_part8_skel
  simp only [wp_bind]
  iintro HS
  iapply (issue_H d L ws qh qv fh fv f7 (16 * t.val + 12) (by omega) _ _ _ _ (off_row (hv)) (k0_off41_eq t ⟨0, by decide⟩) (hws _ (by omega))) $$ HS
  iintro HS
  iapply (issue_V d L ws qh qv fh fv f7 (16 * t.val + 12) (by omega) _ _ _ _ (off_row (hv)) (k0_off42_eq t) (hws _ (by omega))) $$ HS
  iintro HS
  iapply (pass d L (show k0_chk14 _ from inb_row (lane_13 ws t.val) (hws _ (by omega))))
  iapply (issue_H d L ws qh qv fh fv f7 (16 * t.val + 13) (by omega) _ _ _ _ (off_row (lane_13 ws t.val)) (k0_off44_eq t ⟨0, by decide⟩) (hws _ (by omega))) $$ HS
  iintro HS
  iapply (issue_V d L ws qh qv fh fv f7 (16 * t.val + 13) (by omega) _ _ _ _ (off_row (lane_13 ws t.val)) (k0_off45_eq t) (hws _ (by omega))) $$ HS
  iintro HS
  iapply (pass d L (show k0_chk15 _ from inb_row (lane_14 ws t.val) (hws _ (by omega))))
  iapply (done d L)
  isplitr; · ipureintro; exact lane_14 ws t.val
  iexact HS

set_option maxHeartbeats 4000000 in
theorem part9 (f6 : Buf (Elt F) ((sV).view.loc (tl d L))) (hf6 : ∀ y : S512.Idx, f6 y = ws (y 0).val) :
    iprop(((sV).view.loc (tl d L) ↦{fullShare} f6) ∗ St d L ws qh qv fh fv f7 (2 * (16 * t.val)))
      ⊢ wp frame (wpE (defs₀ (F := F)) 𝒱₀ (tl d L) none) Set.univ
          (k0_part9 L hV (Memref.isWhole_whole _) vV (Memref.isWhole_whole _) iV (Memref.isWhole_whole _) oV (Memref.isWhole_whole _)
            sV (Memref.isWhole_whole _) rV (Memref.isWhole_whole _) cc0_scratch2 cc0_scoped0 cc0_scoped1 0#32 1#32 t)
          fun x => iprop(⌜x.1 = ws (16 * t.val + 15)⌝ ∗ ((sV).view.loc (tl d L) ↦{fullShare} f6) ∗ St d L ws qh qv fh fv f7 (2 * (16 * t.val + 15) + 1)) := by
  have ht : t.val < 32 := t.isLt
  rw [k0_part9_eq_skeleton]; unfold k0_part9_skel
  simp only [wp_bind]
  iintro ⟨Hf, HS⟩
  ihave Hw := (part1 d L ws qh qv fh fv f7 hws t f6 hf6) $$ [Hf HS]
  · isplitl [Hf] <;> iassumption
  iapply (wp_wand frame _ Set.univ) $$ Hw
  iintro %x ⟨%hx, Hf, HS⟩
  obtain ⟨a9, v8, v, hw⟩ := x
  obtain ⟨rfl, hv⟩ := hx
  ihave Hw := (part2 d L ws qh qv fh fv f7 hws t a9 v hv hw) $$ HS
  clear hv
  iapply (wp_wand frame _ Set.univ) $$ Hw
  iintro %x ⟨%hv, HS⟩
  obtain ⟨v, hw⟩ := x
  ihave Hw := (part3 d L ws qh qv fh fv f7 hws t a9 v hv hw) $$ HS
  clear hv
  iapply (wp_wand frame _ Set.univ) $$ Hw
  iintro %x ⟨%hv, HS⟩
  obtain ⟨v, hw⟩ := x
  ihave Hw := (part4 d L ws qh qv fh fv f7 hws t a9 v hv hw) $$ HS
  clear hv
  iapply (wp_wand frame _ Set.univ) $$ Hw
  iintro %x ⟨%hv, HS⟩
  obtain ⟨v, hw⟩ := x
  ihave Hw := (part5 d L ws qh qv fh fv f7 hws t a9 v hv hw) $$ HS
  clear hv
  iapply (wp_wand frame _ Set.univ) $$ Hw
  iintro %x ⟨%hv, HS⟩
  obtain ⟨v, hw⟩ := x
  ihave Hw := (part6 d L ws qh qv fh fv f7 hws t a9 v hv hw) $$ HS
  clear hv
  iapply (wp_wand frame _ Set.univ) $$ Hw
  iintro %x ⟨%hv, HS⟩
  obtain ⟨v, hw⟩ := x
  ihave Hw := (part7 d L ws qh qv fh fv f7 hws t a9 v hv hw) $$ HS
  clear hv
  iapply (wp_wand frame _ Set.univ) $$ Hw
  iintro %x ⟨%hv, HS⟩
  obtain ⟨v, hw⟩ := x
  ihave Hw := (part8 d L ws qh qv fh fv f7 hws t a9 v hv hw) $$ HS
  clear hv
  iapply (wp_wand frame _ Set.univ) $$ Hw
  iintro %x ⟨%hv, HS⟩
  obtain ⟨v, hw⟩ := x
  iapply (issue_H d L ws qh qv fh fv f7 (16 * t.val + 14) (by omega) _ _ _ _ (off_row (hv)) (k0_off47_eq t ⟨0, by decide⟩) (hws _ (by omega))) $$ HS
  iintro HS
  iapply (issue_V d L ws qh qv fh fv f7 (16 * t.val + 14) (by omega) _ _ _ _ (off_row (hv)) (k0_off48_eq t) (hws _ (by omega))) $$ HS
  iintro HS
  iapply (pass d L (show k0_chk16 _ from inb_row (lane_15 ws t.val) (hws _ (by omega))))
  iapply (issue_H d L ws qh qv fh fv f7 (16 * t.val + 15) (by omega) _ _ _ _ (off_row (lane_15 ws t.val)) (k0_off50_eq t) (hws _ (by omega))) $$ HS
  iintro HS
  iapply (done d L)
  isplitr; · ipureintro; exact lane_15 ws t.val
  isplitl [Hf]; · iexact Hf
  iexact HS

set_option maxHeartbeats 4000000 in
/-- A trip of the issue loop: sixteen rows, thirty-two copies. -/
theorem trip (f6 : Buf (Elt F) ((sV).view.loc (tl d L))) (hf6 : ∀ y : S512.Idx, f6 y = ws (y 0).val) (u : Unit) :
    iprop(((sV).view.loc (tl d L) ↦{fullShare} f6) ∗ St d L ws qh qv fh fv f7 (2 * (16 * t.val)))
      ⊢ wp frame (wpE (defs₀ (F := F)) 𝒱₀ (tl d L) none) Set.univ
          (k0_t1_body L hV (Memref.isWhole_whole _) vV (Memref.isWhole_whole _) iV (Memref.isWhole_whole _) oV (Memref.isWhole_whole _)
            sV (Memref.isWhole_whole _) rV (Memref.isWhole_whole _) cc0_scratch2 cc0_scoped0 cc0_scoped1 t u)
          fun _ => iprop(((sV).view.loc (tl d L) ↦{fullShare} f6) ∗ St d L ws qh qv fh fv f7 (2 * (16 * t.val + 16))) := by
  have ht : t.val < 32 := t.isLt
  unfold k0_t1_body
  simp only [wp_bind]
  iintro H
  ihave Hw := (part9 d L ws qh qv fh fv f7 hws t f6 hf6) $$ H
  iapply (wp_wand frame _ Set.univ) $$ Hw
  iintro %x ⟨%hv, Hf, HS⟩
  obtain ⟨v, hw⟩ := x
  iapply (issue_V d L ws qh qv fh fv f7 (16 * t.val + 15) (by omega) _ _ _ _ (off_row hv) (k0_off51_eq t) (hws _ (by omega))) $$ HS
  iintro HS
  iapply (done d L)
  isplitl [Hf]; · iexact Hf
  iexact HS

end Parts

end Cert.Proof.Mem

end
-- ==== Proof.Tile.lean ====
/-
  A tile's task of the SparseCore call, at a symbolic tile: the fetch of its 512 row numbers, the loop that issues the
  1024 row copies, the loop that waits for them, and the copy of the gathered rows out.
-/
module

public import proofs.«01_k».proof.Proof.Parts

@[expose] public section

noncomputable section

namespace Cert.Proof.Mem

open Cert.KernelIdeal Cert.KernelIdeal.Gen

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

set_option maxRecDepth 4096

/-! ## The arrays -/

abbrev iLoc (d : Dev nD) : Loc nD τ sig := (SparseCore.T d : Thread nD τ).loc main_arg1
abbrev hLoc (d : Dev nD) : Loc nD τ sig := (SparseCore.T d : Thread nD τ).loc main_arg2
abbrev vLoc (d : Dev nD) : Loc nD τ sig := (SparseCore.T d : Thread nD τ).loc main_arg3
abbrev oLoc (d : Dev nD) : Loc nD τ sig := (SparseCore.T d : Thread nD τ).loc main_v0

section Task

variable (d : Dev nD) (L : grid0.Coords)

/-! ## The loop that waits -/

section Drain

variable (ws : ℕ → BitVec 32) (qh qv : PosShare TreeShare) (fh fv : S100000x64.Idx → Elt F .f32)
variable (O : CellTallies nD τ sig (HIx 1)) (W : Waits sig (HIx 1))

/-- What the thread owes, with any waits of its own recorded. -/
def owing : sProp 𝕄 := iprop(∃ W', ⌜∀ p ∈ W', p ∈ W ∨ p.2 = none⌝ ∗ owes (tl d L) O W')

/-- After `k` trips of the waiting loop `2 k` row copies are waited for; after the last every delivery is at hand. -/
def drainI (k : ℕ) (_ : Unit) : sProp 𝕄 :=
  iprop(levAts (K (F := F)).L (K (F := F)).lev ∗ owing d L O W ∗ (if k < 512 then batch d L ws qh qv fh fv (2 * 512) (2 * k * rowN)
    else iprop(bigSep Finset.univ (deliv d L ws qh qv fh fv) ∗ semVal (tl d L, .dma cc0_scratch2.sem) 0)))

theorem recorded {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with hp | hp
  · exact .inr (hp ▸ rfl)
  · exact h p hp

variable [FloatOps F]

/-- A trip of the waiting loop. -/
theorem drain_trip (hO : ∀ g, O g none = 0) (t : Fin k0_t2_loop.trips) (u : Unit) :
    drainI d L ws qh qv fh fv O W t.val u
      ⊢ wp frame (wpE (defs₀ (F := F)) 𝒱₀ (tl d L) none) Set.univ
          (k0_t2_body L hV (Memref.isWhole_whole _) vV (Memref.isWhole_whole _) iV (Memref.isWhole_whole _) oV (Memref.isWhole_whole _)
            sV (Memref.isWhole_whole _) rV (Memref.isWhole_whole _) cc0_scratch2 cc0_scoped0 cc0_scoped1 t u)
          fun u' => drainI d L ws qh qv fh fv O W (t.val + 1) u' := by
  have ht : t.val < 512 := t.isLt
  have hN := rowN_pos
  unfold k0_t2_body drainI owing
  simp only [wp_bind, if_pos ht]
  iintro ⟨#Hlv, ⟨%W', %hW, HO⟩, HB⟩
  ihave #Hmw := (show levAts (K (F := F)).L (K (F := F)).lev ⊢ Transfers.MayWaits (tl d L) (default : HIx 1) O from
    (K (F := F)).mayWaits_none (thr := tl d L) hO) $$ Hlv
  have h1 : 2 * t.val * rowN + rowN < rowN * (2 * 512) := by
    rw [Nat.mul_comm rowN, ← Nat.succ_mul]; exact Nat.mul_lt_mul_of_pos_right (by omega) hN
  iapply (Transfers.wp_waitBatchO countersEmb 𝒱₀ (tl d L) none (default : HIx 1) (N := rowN) rfl h1) $$ [HB HO]
  · isplitl [HB]; · iexact HB
    isplitl [HO]; · iexact HO
    iapply (Transfers.MayWaits.elim (SemLoc.dma cc0_scratch2.sem)) $$ Hmw
  iintro ⟨HB, HO⟩
  rw [wp_ret]; imodintro
  rcases Nat.lt_or_ge (t.val + 1) 512 with h | h
  · rw [if_pos h]
    have h2 : 2 * t.val * rowN + rowN + rowN < rowN * (2 * 512) := by
      rw [Nat.mul_comm rowN, ← Nat.succ_mul, ← Nat.succ_mul]; exact Nat.mul_lt_mul_of_pos_right (by omega) hN
    iapply (Transfers.wp_waitBatchO countersEmb 𝒱₀ (tl d L) none (default : HIx 1) (N := rowN) rfl h2) $$ [HB HO]
    · isplitl [HB]; · iexact HB
      isplitl [HO]; · iexact HO
      iapply (Transfers.MayWaits.elim (SemLoc.dma cc0_scratch2.sem)) $$ Hmw
    iintro ⟨HB, HO⟩
    rw [wp_ret]; imodintro
    iapply (done d L)
    isplitr; · iexact Hlv
    isplitl [HO]
    · iexists _; isplitr; swap; · iexact HO
      ipureintro; exact recorded (recorded hW _) _
    rw [show 2 * (t.val + 1) * rowN = 2 * t.val * rowN + rowN + rowN by rw [← Nat.succ_mul, ← Nat.succ_mul]; rfl]
    iexact HB
  · rw [if_neg (Nat.not_lt.mpr h)]
    have h2 : 2 * t.val * rowN + rowN + rowN = rowN * (2 * 512) := by
      rw [Nat.mul_comm rowN, ← Nat.succ_mul, ← Nat.succ_mul]; congr 1; omega
    iapply (Transfers.wp_waitBatchLastO countersEmb 𝒱₀ (tl d L) none (default : HIx 1) (N := rowN) rfl hN h2) $$ [HB HO]
    · isplitl [HB]; · iexact HB
      isplitl [HO]; · iexact HO
      iapply (Transfers.MayWaits.elim (SemLoc.dma cc0_scratch2.sem)) $$ Hmw
    iintro ⟨HD, Hc, HO⟩
    rw [wp_ret]; imodintro
    iapply (done d L)
    isplitr; · iexact Hlv
    isplitl [HO]
    · iexists _; isplitr; swap; · iexact HO
      ipureintro; exact recorded (recorded hW _) _
    isplitl [HD]; · iexact HD
    iexact Hc

omit [FloatOps F] in
/-- Every delivery: the row scratch at what the copies leave, and of each table every row read. -/
theorem deliv_all :
    (bigSep Finset.univ (deliv d L ws qh qv fh fv) : sProp 𝕄)
      ⊢ iprop(((rV).view.loc (tl d L) ↦{fullShare} (landed ws fh fv)) ∗ bigSep (Finset.range 512) (tabRow d L ws hV qh fh)
        ∗ bigSep (Finset.range 512) (tabRow d L ws vV qv fv)) := by
  unfold deliv
  rw [Ring.bigSep_interleaved]
  unfold dH dV
  iintro ⟨HH, HV⟩
  ihave H := (Entails.of_eq (bigSep_sep' (Finset.range 512) (fun i => ((rV).view.loc (tl d L) ↦[piece (2 * i)]{fullShare} (landed ws fh fv) : sProp 𝕄)) (tabRow d L ws hV qh fh))) $$ HH
  icases H with ⟨He, Hh⟩
  ihave H := (Entails.of_eq (bigSep_sep' (Finset.range 512) (fun i => ((rV).view.loc (tl d L) ↦[piece (2 * i + 1)]{fullShare} (landed ws fh fv) : sProp 𝕄)) (tabRow d L ws vV qv fv))) $$ HV
  icases H with ⟨Ho, Hv⟩
  isplitl [He Ho]
  · rw [show ((rV).view.loc (tl d L) ↦{fullShare} (landed ws fh fv) : sProp 𝕄) = bigSep (Finset.range 1024) fun j => (rV).view.loc (tl d L) ↦[piece j]{fullShare} (landed ws fh fv) from by
      rw [← pointsTo_biUnion (Finset.range 1024) (ℓ := (rV).view.loc (tl d L)) piece (fun i _ j _ h => piece_disjoint h), biUnion_piece]]
    iapply (Entails.of_eq (Ring.bigSep_range_deinterleave 512 (fun j => ((rV).view.loc (tl d L) ↦[piece j]{fullShare} (landed ws fh fv) : sProp 𝕄))).symm)
    isplitl [He] <;> iassumption
  isplitl [Hh] <;> iassumption

end Drain

/-! ## A tile's windows of the arrays -/

/-- The tile's number: it takes rows `512 w` to `512 w + 511`. -/
abbrev wid (L : grid0.Coords) : ℕ := 2 * (L 1).val + (L 0).val

theorem wid_lt : wid L < 32 := by
  have h0 : (L 0).val < 2 := (L 0).isLt
  have h1 : (L 1).val < 16 := (L 1).isLt
  show 2 * (L 1).val + (L 0).val < 32
  omega

/-- The row numbers a tile fetches. -/
def words (fi : S16384.Idx → BitVec 32) (w i : ℕ) : BitVec 32 := fi (ix1 ⟨(512 * w + i) % 16384, Nat.mod_lt _ (by decide)⟩)

/-- The rows of the gathered array tile `w` fills. -/
def rowsOf (w : ℕ) : Finset S16384x128.Idx := Finset.univ.filter fun y => (y 0).val / 512 = w

/-- Column `c` of a gathered row: `hidden`'s row `w`, then `variance`'s. -/
def pick (fh fv : S100000x64.Idx → Elt F .f32) (w : BitVec 32) (c : Fin 128) : Elt F .f32 :=
  if h : c.val < 64 then fh (ix2 ⟨w.toNat % 100000, Nat.mod_lt _ (by decide)⟩ ⟨c.val, h⟩)
  else fv (ix2 ⟨w.toNat % 100000, Nat.mod_lt _ (by decide)⟩ ⟨c.val - 64, by omega⟩)

/-- The gathered array: row `b` is row `idx b` of `hidden`, then row `idx b` of `variance`. -/
def gathered (fi : S16384.Idx → BitVec 32) (fh fv : S100000x64.Idx → Elt F .f32) : S16384x128.Idx → Elt F .f32 := fun y =>
  pick fh fv (fi (ix1 (y 0))) (y 1)

/-- The tile's slice of `idx`, as it addresses it; -/
abbrev iSl (L : grid0.Coords) : Memref sig .scVector .hbm S512 .i32 := (iV).slice (Rect.unit (s := S16384) (k0_off1 L) S512.size (k0_off1_inb L)) (fun _ => rfl)
/-- its rows of the gathered array. -/
abbrev oSl (L : grid0.Coords) : Memref sig .scVector .hbm S512x128 .f32 :=
  (oV).slice (Rect.unit (s := S16384x128) (k0_off54 L) S512x128.size (k0_off54_inb L)) (fun _ => rfl)

theorem iSl_emb (x : S512.Idx) : (iSl L).view.emb x = (ix1 ⟨(512 * wid L + (x 0).val) % 16384, Nat.mod_lt _ (by decide)⟩ : S16384.Idx) := by
  have h : k0_off1 L 0 = 1024 * (L 1).val + 512 * (L 0).val := congrFun (k0_off1_eq L) 0
  have hx : (x 0).val < 512 := (x 0).isLt
  have hw : 2 * (L 1).val + (L 0).val < 32 := wid_lt L
  funext a
  refine Fin.ext ?_
  match a with
  | ⟨0, _⟩ =>
    refine (unit_idx (s := S16384) (off := k0_off1 L) (size := S512.size) (hb := k0_off1_inb L) x 0).trans ?_
    show k0_off1 L 0 + (x 0).val = (512 * (2 * (L 1).val + (L 0).val) + (x 0).val) % 16384
    rw [Nat.mod_eq_of_lt (by omega)]; omega

theorem oSl_emb (x : S512x128.Idx) : (oSl L).view.emb x = (ix2 ⟨512 * wid L + (x 0).val, by have := wid_lt L; have := idx2_lt0 x; omega⟩ (x 1) : S16384x128.Idx) := by
  have h0 : k0_off54 L 0 = 1024 * (L 1).val + 512 * (L 0).val := congrFun (k0_off54_eq L) 0
  have h1 : k0_off54 L 1 = 0 := congrFun (k0_off54_eq L) 1
  funext a
  refine Fin.ext ?_
  match a with
  | ⟨0, _⟩ =>
    refine (unit_idx (s := S16384x128) (off := k0_off54 L) (size := S512x128.size) (hb := k0_off54_inb L) x 0).trans ?_
    show k0_off54 L 0 + (x 0).val = 512 * (2 * (L 1).val + (L 0).val) + (x 0).val
    omega
  | ⟨1, _⟩ =>
    refine (unit_idx (s := S16384x128) (off := k0_off54 L) (size := S512x128.size) (hb := k0_off54_inb L) x 1).trans ?_
    show k0_off54 L 1 + (x 1).val = (x 1).val
    omega

theorem oSl_set : (oSl L).view.set = rowsOf (wid L) := by
  ext y
  constructor
  · intro hy
    obtain ⟨x, -, rfl⟩ := Finset.mem_map.mp hy
    rw [oSl_emb]
    have hx := idx2_lt0 x
    refine Finset.mem_filter.mpr ⟨Finset.mem_univ _, ?_⟩
    show (512 * wid L + (x 0).val) / 512 = wid L
    omega
  · intro hy
    have h := (Finset.mem_filter.mp hy).2
    have hx := idx2_lt0 y
    refine Finset.mem_map.mpr ⟨ix2 ⟨(y 0).val % 512, Nat.mod_lt _ (by decide)⟩ (y 1), Finset.mem_univ _, ?_⟩
    rw [oSl_emb]
    funext a
    refine Fin.ext ?_
    match a with
    | ⟨0, _⟩ => show 512 * wid L + (y 0).val % 512 = (y 0).val; omega
    | ⟨1, _⟩ => rfl

/-- The rows a tile gathers are its rows of the gathered array. -/
theorem landed_gathered (fi : S16384.Idx → BitVec 32) (fh fv : S100000x64.Idx → Elt F .f32) (x : S512x128.Idx) :
    landed (words fi (wid L)) fh fv x = gathered fi fh fv ((oSl L).view.emb x) := by
  rw [oSl_emb]
  show pick fh fv (fi (ix1 ⟨(512 * wid L + (x 0).val) % 16384, _⟩)) (x 1) = pick fh fv (fi (ix1 ⟨512 * wid L + (x 0).val, _⟩)) (x 1)
  have := wid_lt L; have := idx2_lt0 x
  congr 3
  exact Fin.ext (Nat.mod_eq_of_lt (by omega))

/-! ## The subcore's own cells and buffers -/

abbrev cellG (d : Dev nD) (L : grid0.Coords) : GSem nD τ sig := (tl d L, .dma cc0_scratch2.sem)
abbrev cellA (d : Dev nD) (L : grid0.Coords) : GSem nD τ sig := (tl d L, .dma cc0_scoped0.sem)
abbrev cellB (d : Dev nD) (L : grid0.Coords) : GSem nD τ sig := (tl d L, .dma cc0_scoped1.sem)

theorem ownSems0_tl :
    (ownSems0 (tl d L) : sProp 𝕄)
      = iprop(semVal (cellG d L) 0 ∗ semVal (cellA d L) 0 ∗ semVal (cellB d L) 0
          ∗ bigSep ((((ownCells (tl d L)).erase (cellG d L)).erase (cellA d L)).erase (cellB d L)) fun g => semVal g 0) := by
  unfold SparseCore.Cfg.ownSems0
  rw [SparseCore.bigSep_erase' ((mem_ownCells (g := cellG d L)).mpr ⟨rfl, by
      show (SemLoc.dma cc0_scratch2.sem : SemLoc sig).isScoped .scVector = true; decide⟩),
    SparseCore.bigSep_erase' (Finset.mem_erase.mpr ⟨by simp [cellG, cellA]; decide, (mem_ownCells (g := cellA d L)).mpr ⟨rfl, by
      show (SemLoc.dma cc0_scoped0.sem : SemLoc sig).isScoped .scVector = true; decide⟩⟩),
    SparseCore.bigSep_erase' (Finset.mem_erase.mpr ⟨by simp [cellA, cellB]; decide, Finset.mem_erase.mpr ⟨by simp [cellG, cellB]; decide,
      (mem_ownCells (g := cellB d L)).mpr ⟨rfl, by show (SemLoc.dma cc0_scoped1.sem : SemLoc sig).isScoped .scVector = true; decide⟩⟩⟩)]

theorem ownBufs_tl :
    (ownBufs (tl d L) : sProp 𝕄)
      = iprop((∃ f, (tl d L).loc cc0_scratch0 ↦{fullShare} f) ∗ (∃ f, (tl d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The task -/

/-- What a tile takes and brings back: a share of each table and of `idx`, and its rows of the gathered array. -/
def tilePay (d : Dev nD) (w : ℕ) (q : PosShare TreeShare) (fi : Buf (Elt F) (iLoc d)) (fh : Buf (Elt F) (hLoc d)) (fv : Buf (Elt F) (vLoc d))
    (fo : Buf (Elt F) (oLoc d)) : sProp 𝕄 :=
  iprop((iLoc d ↦{q} fi) ∗ (hLoc d ↦{q} fh) ∗ (vLoc d ↦{q} fv) ∗ (oLoc d ↦[rowsOf w]{fullShare} fo))

/-- The state of the issuing loop after `k` trips. -/
def issueI (ws : ℕ → BitVec 32) (qh qv : PosShare TreeShare) (fh fv : S100000x64.Idx → Elt F .f32) (f6 : Buf (Elt F) ((sV).view.loc (tl d L)))
    (f7 : Buf (Elt F) ((rV).view.loc (tl d L))) (k : ℕ) (_ : Unit) : sProp 𝕄 :=
  iprop(((sV).view.loc (tl d L) ↦{fullShare} f6) ∗ St d L ws qh qv fh fv f7 (2 * (16 * k)))

variable [FloatOps F]

set_option maxHeartbeats 4000000 in
theorem tile_body (hF : (K (F := F)).Facts) (q : PosShare TreeShare) (fi : S16384.Idx → BitVec 32) (fh fv : S100000x64.Idx → Elt F .f32)
    (fo : S16384x128.Idx → Elt F .f32) (hpre : ∀ y, (fi y).toNat < 100000)
    (O : CellTallies nD τ sig (HIx 1)) (W : Waits sig (HIx 1)) (hO : ∀ g, O g none = 0) :
    iprop(levAts (K (F := F)).L (K (F := F)).lev ∗ emp ∗ tilePay d (wid L) q fi fh fv fo
        ∗ scopedBufs (tl d L) ∗ scopedSems0 (tl d L) ∗ owes (tl d L) O W)
      ⊢ wp frame (wpE (defs₀ (F := F)) 𝒱₀ (tl d L) none) Set.univ
          (cc0_k L hV (Memref.isWhole_whole _) vV (Memref.isWhole_whole _) iV (Memref.isWhole_whole _) oV (Memref.isWhole_whole _)
            sV (Memref.isWhole_whole _) rV (Memref.isWhole_whole _) cc0_scratch2 cc0_scoped0 cc0_scoped1)
          fun _ => iprop(tilePay d (wid L) q fi fh fv (gathered fi fh fv)
            ∗ scopedBufs (tl d L) ∗ scopedSems0 (tl d L)
            ∗ ∃ W', ⌜∀ p ∈ W', p ∈ W ∨ p.2 = none⌝ ∗ owes (tl d L) O W') := by
  simp only [cc0_k_eq_skeleton]; sl_unfold [cc0_k_skel]
  rw [(K (F := F)).scopedBufs_V hF d (cV L) (jV L), SparseCore.Cfg.scopedSems0_V (Val := Elt F) d (cV L) (jV L), ownSems0_tl, ownBufs_tl]
  unfold tilePay
  iintro ⟨#Hlv, -, ⟨Hi, Hh, Hv, Ho⟩, ⟨⟨%fs, Hs⟩, ⟨%fr, Hr⟩, Hbufs⟩, ⟨HsemG, HsemA, HsemB, Hsems⟩, HO⟩
  ihave #Hmw := (show levAts (K (F := F)).L (K (F := F)).lev ⊢ Transfers.MayWaits (tl d L) (default : HIx 1) O from
    (K (F := F)).mayWaits_none (thr := tl d L) hO) $$ Hlv
  ihave Hi' := (show (iLoc d ↦{q} fi : sProp 𝕄) ⊢ iprop(((iSl L).view.loc (tl d L) ↦[(iSl L).view.set]{q} fi)
      ∗ ((iSl L).view.loc (tl d L) ↦[Finset.univ \ (iSl L).view.set]{q} fi)) from
    (pointsTo_split_subset (Finset.subset_univ _)).1) $$ Hi
  icases Hi' with ⟨Hi, Hirest⟩
  ihave Ho' := (Entails.of_eq (show (oLoc d ↦[rowsOf (wid L)]{fullShare} fo : sProp 𝕄)
      = ((oSl L).view.loc (tl d L) ↦[(oSl L).view.set]{fullShare} fo) by rw [oSl_set])) $$ Ho
  ihave Hs' := (show ((tl d L).loc cc0_scratch0 ↦{fullShare} fs : sProp 𝕄) ⊢ ((sV).view.loc (tl d L) ↦{fullShare} fs) from .rfl) $$ Hs
  sl_exec
  have hf6 : ∀ y : S512.Idx, View.write (Elt F) (sV).view fs (tile_body.sl.dma0 L fi) Finset.univ y = words fi (wid L) (y 0).val := by
    intro y
    rw [View.write_whole_univ]
    refine (show tile_body.sl.dma0 L fi y = (iSl L).view.read (Elt F) fi y from rfl).trans ?_
    refine (View.read_apply _ _).trans ?_
    refine (cast_eq _ _).trans ?_
    exact congrArg fi (iSl_emb L y)
  generalize View.write (Elt F) (sV).view fs (tile_body.sl.dma0 L fi) Finset.univ = f6 at hf6
  imod (Transfers.batch_alloc' (Lvl := ℕ) (countersEmb (U := UU)) (tl d L) (default : HIx 1) rowN (deliv d L (words fi (wid L)) q q fh fv) (sm := .dma cc0_scratch2.sem) (E := Set.univ)) $$ HsemG with HB
  sl_for (issueI d L (words fi (wid L)) q q fh fv f6 fr) $$ [Hs' Hh Hv Hr HB]
  · intro t u
    unfold issueI
    exact trip d L (words fi (wid L)) q q fh fv fr (fun i hi => hpre _) t f6 hf6 u
  · unfold issueI St
    isplitl [Hs']; · iexact Hs'
    isplitl [Hh]
    · iapply (tab_zero d L (words fi (wid L)) hV q fh); iexact Hh
    isplitl [Hv]
    · iapply (tab_zero d L (words fi (wid L)) vV q fv); iexact Hv
    isplitl [Hr]
    · rw [rest_zero]; iexact Hr
    iexact HB
  iintro %acc HI
  ihave HI' := (show issueI d L (words fi (wid L)) q q fh fv f6 fr (Scf.trips k0_t1_loop.lb k0_t1_loop.ub k0_t1_loop.st) acc
      ⊢ issueI d L (words fi (wid L)) q q fh fv f6 fr 32 acc from .rfl) $$ HI
  unfold issueI St
  icases HI' with ⟨Hs', Hh, Hv, -, HB⟩
  sl_for (drainI d L (words fi (wid L)) q q fh fv O W) $$ [HB HO]
  · intro t u
    exact drain_trip d L (words fi (wid L)) q q fh fv O W hO t u
  · unfold drainI owing
    rw [if_pos (by decide)]
    isplitr; · iexact Hlv
    isplitl [HO]
    · iexists _; isplitr; swap; · iexact HO
      ipureintro; exact recorded (W := W) (W' := W) (fun p hp => Or.inl hp) _
    rw [show 2 * 0 * rowN = 0 by rw [Nat.mul_zero, Nat.zero_mul]]
    iexact HB
  iintro %acc' HI
  ihave HI' := (show drainI d L (words fi (wid L)) q q fh fv O W (Scf.trips k0_t2_loop.lb k0_t2_loop.ub k0_t2_loop.st) acc'
      ⊢ drainI d L (words fi (wid L)) q q fh fv O W 512 acc' from .rfl) $$ HI
  unfold drainI owing
  rw [if_neg (by decide)]
  icases HI' with ⟨-, ⟨%W', %hW, HO⟩, HD, HsemG⟩
  ihave HD' := (deliv_all d L (words fi (wid L)) q q fh fv) $$ HD
  icases HD' with ⟨Hr, Hht, Hvt⟩
  ihave Hh' := (tab_join d L (words fi (wid L)) hV q fh 512) $$ [Hh Hht]
  · isplitl [Hh] <;> iassumption
  ihave Hv' := (tab_join d L (words fi (wid L)) vV q fv 512) $$ [Hv Hvt]
  · isplitl [Hv] <;> iassumption
  sl_exec
  have hO' : ∀ y : S16384x128.Idx, y ∈ rowsOf (wid L) → (oSl L).view.writes (Elt F) fo [⟨Rect.whole S512x128, tile_body.sl.dma0_1 L fi fh fv⟩] y = gathered fi fh fv y := by
    intro y hy
    rw [← oSl_set L] at hy
    obtain ⟨x, -, rfl⟩ := Finset.mem_map.mp hy
    have ex : (Rect.whole S512x128).emb x = x := Rect.emb_whole_apply S512x128 x
    have e := View.read_writes_cons_emb (oSl L).view fo (Rect.whole S512x128) (tile_body.sl.dma0_1 L fi fh fv) [] x
    rw [ex, View.read_apply] at e
    refine ((cast_eq _ _).symm.trans e).trans ?_
    exact landed_gathered L fi fh fv x
  iapply (done d L)
  isplitl [Hirest Hh' Hv' Ho']
  · isplitl [Hirest]; · iexact Hirest
    isplitl [Hh']; · iexact Hh'
    isplitl [Hv']; · iexact Hv'
    ihave Ho := (Entails.of_eq (show ((oSl L).view.loc (tl d L) ↦[(oSl L).view.set]{fullShare}
          (oSl L).view.writes (Elt F) fo [⟨Rect.whole S512x128, tile_body.sl.dma0_1 L fi fh fv⟩] : sProp 𝕄)
        = (oLoc d ↦[rowsOf (wid L)]{fullShare} gathered fi fh fv) from by
      rw [oSl_set]; exact pointsTo_congr hO')) $$ Ho'
    iexact Ho
  isplitl [Hs' Hr Hbufs]
  · isplitl [Hs']; · iexists _; iexact Hs'
    isplitl [Hr]; · iexists _; iexact Hr
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; exact recorded hW _

end Task

end Cert.Proof.Mem

end
-- ==== Proof.Call.lean ====
/-
  The SparseCore call as the launch theorem sees it: what the call's sequencers and tiles are handed and bring back, the
  tile's obligation, and how the whole arrays on the TensorCore split into the 32 tiles' parts and join again.
-/
module

public import proofs.«01_k».proof.Proof.Tile

@[expose] public section

noncomputable section

namespace Cert.Proof.Mem

open Cert.KernelIdeal Cert.KernelIdeal.Gen

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

set_option maxRecDepth 4096

variable (m : (ℓ : Loc nD τ sig) → Buf (Elt F) ℓ)

/-! ## What the call hands over -/

/-- The share of `idx`, `hidden` and `variance` that tile `w` reads through. -/
abbrev tok (w : ℕ) : PosShare TreeShare := Transfers.shareTokN fullShare w

/-- Tile `w`'s part of the arrays when the call starts, -/
abbrev tile0 (d : Dev nD) (w : ℕ) : sProp 𝕄 := tilePay d w (tok w) (m (iLoc d)) (m (hLoc d)) (m (vLoc d)) (m (oLoc d))
/-- and when it ends. -/
abbrev tile1 (d : Dev nD) (w : ℕ) : sProp 𝕄 :=
  tilePay d w (tok w) (m (iLoc d)) (m (hLoc d)) (m (vLoc d)) (gathered (m (iLoc d)) (m (hLoc d)) (m (vLoc d)))

instance tilePay_storable (d : Dev nD) (w : ℕ) (q : PosShare TreeShare) (fi : Buf (Elt F) (iLoc d)) (fh : Buf (Elt F) (hLoc d))
    (fv : Buf (Elt F) (vLoc d)) (fo : Buf (Elt F) (oLoc d)) : BI.Storable (upEmb : UEmb _ 𝕄) (tilePay d w q fi fh fv fo) := by
  unfold tilePay; infer_instance

/-- A core takes its 16 tiles' parts, and each tile its own. -/
def P : (K (F := F)).Pay (nD := nD) (Val := Elt F) (Name := ℕ) (U := UU) where
  st := fun q d c => match q with | 0 => bigSep Finset.univ fun s : Fin ((K (F := F)).nSub 0) => tile0 m d (2 * s.val + c.val)
  dn := fun q d c => match q with | 0 => bigSep Finset.univ fun s : Fin ((K (F := F)).nSub 0) => tile1 m d (2 * s.val + c.val)
  go := fun q d c i => match q with | 0 => tile0 m d (2 * i.val + c.val)
  td := fun q d c i => match q with | 0 => tile1 m d (2 * i.val + c.val)
  x := fun _ _ => iprop(emp)

instance P_storable : (P (F := F) m).IsStorable where
  st q d c := match q with
    | 0 => (inferInstance : BI.Storable (upEmb : UEmb _ 𝕄) (bigSep Finset.univ fun s : Fin ((K (F := F)).nSub 0) => tile0 m d (2 * s.val + c.val)))
  dn q d c := match q with
    | 0 => (inferInstance : BI.Storable (upEmb : UEmb _ 𝕄) (bigSep Finset.univ fun s : Fin ((K (F := F)).nSub 0) => tile1 m d (2 * s.val + c.val)))
  go q d c i := match q with
    | 0 => (inferInstance : BI.Storable (upEmb : UEmb _ 𝕄) (tile0 m d (2 * i.val + c.val)))
  td q d c i := match q with
    | 0 => (inferInstance : BI.Storable (upEmb : UEmb _ 𝕄) (tile1 m d (2 * i.val + c.val)))

/-- Each word of `idx` numbers a row of the tables. -/
def PreOK : Prop := ∀ (d : Dev nD) (j : S16384.Idx), (m (iLoc d) j : BitVec 32).toNat < 100000

theorem vecSplit : (K (F := F)).VecSplit' (P m) 0 := by
  intro d c
  show (bigSep Finset.univ fun s : Fin ((K (F := F)).nSub 0) => tile0 m d (2 * s.val + c.val)) ⊢ |={Set.univ}=> iprop(
      (bigSep Finset.univ fun s : Fin ((K (F := F)).nSub 0) => tile0 m d (2 * s.val + c.val))
      ∗ ((bigSep Finset.univ fun s : Fin ((K (F := F)).nSub 0) => tile1 m d (2 * s.val + c.val))
          -∗ (bigSep Finset.univ fun s : Fin ((K (F := F)).nSub 0) => tile1 m d (2 * s.val + c.val))))
  iintro H; imodintro
  isplitl [H]; · iexact H
  iintro H; iexact H

/-! ## The tile's obligation -/

section Obligation

variable [FloatOps F]

/-- The grid coordinates of the tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          hV (Memref.isWhole_whole _) vV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (tok (2 * i.val + c.val)) (m (iLoc d)) (m (hLoc d)) (m (vLoc d)) (m (oLoc d))
    (hpre d) O W hO).trans (wp_mono frame _ _ fun _ => obl_post)

end Obligation

/-! ## The whole arrays and the tiles' parts -/

/-- A sum over the 32 tile numbers is a sum over the two cores of sums over their 16 tiles. -/
theorem bigSep_tiles (Φ : ℕ → sProp 𝕄) :
    bigSep (Finset.range 32) Φ
      = bigSep Finset.univ fun c : Fin ((K (F := F)).nCore 0) => bigSep Finset.univ fun s : Fin ((K (F := F)).nSub 0) => Φ (2 * s.val + c.val) := by
  have h : ∀ c : ℕ, bigSep Finset.univ (fun s : Fin ((K (F := F)).nSub 0) => Φ (2 * s.val + c)) = bigSep (Finset.range 16) fun s => Φ (2 * s + c) := fun c =>
    Ring.bigSep_fin_eq_range 16 (fun s : Fin 16 => Φ (2 * s.val + c)) (fun s => Φ (2 * s + c)) fun _ _ => rfl
  rw [show (32 : ℕ) = 2 * 16 from rfl, Ring.bigSep_range_deinterleave]
  refine Eq.symm ((Ring.bigSep_fin2 (fun c : Fin 2 => bigSep Finset.univ fun s : Fin ((K (F := F)).nSub 0) => Φ (2 * s.val + c.val))).trans ?_)
  rw [h, h]; rfl

theorem rows_disjoint : ∀ w ∈ Finset.range 32, ∀ w' ∈ Finset.range 32, w ≠ w' → Disjoint (rowsOf w) (rowsOf w') := by
  intro w _ w' _ hne
  refine Finset.disjoint_left.mpr fun y hy hy' => hne ?_
  rw [rowsOf, Finset.mem_filter] at hy hy'
  exact hy.2.symm.trans hy'.2

theorem rows_cover : (Finset.range 32).biUnion rowsOf = Finset.univ := by
  ext y
  simp only [Finset.mem_biUnion, Finset.mem_range, Finset.mem_univ, iff_true]
  have hy : (y 0).val < 16384 := (y 0).isLt
  exact ⟨(y 0).val / 512, by omega, Finset.mem_filter.mpr ⟨Finset.mem_univ _, rfl⟩⟩

theorem rows_whole (d : Dev nD) (f : Buf (Elt F) (oLoc d)) :
    (oLoc d ↦{fullShare} f : sProp 𝕄) = bigSep (Finset.range 32) fun w => oLoc d ↦[rowsOf w]{fullShare} f := by
  rw [← pointsTo_biUnion (ℓ := oLoc d) (Finset.range 32) rowsOf rows_disjoint, rows_cover]

/-- What stays on the TensorCore while the tiles read. -/
def kept (d : Dev nD) (fi : Buf (Elt F) (iLoc d)) (fh : Buf (Elt F) (hLoc d)) (fv : Buf (Elt F) (vLoc d)) : sProp 𝕄 :=
  iprop((iLoc d ↦{Transfers.shareDrop fullShare 32} fi) ∗ (hLoc d ↦{Transfers.shareDrop fullShare 32} fh)
    ∗ (vLoc d ↦{Transfers.shareDrop fullShare 32} fv))

/-- The four arrays whole. -/
def wholes (d : Dev nD) (fi : Buf (Elt F) (iLoc d)) (fh : Buf (Elt F) (hLoc d)) (fv : Buf (Elt F) (vLoc d)) (fo : Buf (Elt F) (oLoc d)) : sProp 𝕄 :=
  iprop((iLoc d ↦{fullShare} fi) ∗ (hLoc d ↦{fullShare} fh) ∗ (vLoc d ↦{fullShare} fv) ∗ (oLoc d ↦{fullShare} fo))

theorem wholes_split (d : Dev nD) (fi : Buf (Elt F) (iLoc d)) (fh : Buf (Elt F) (hLoc d)) (fv : Buf (Elt F) (vLoc d)) (fo : Buf (Elt F) (oLoc d)) :
    (wholes d fi fh fv fo : sProp 𝕄) ⊢ iprop(kept d fi fh fv
      ∗ bigSep Finset.univ fun c : Fin ((K (F := F)).nCore 0) => bigSep Finset.univ fun s : Fin ((K (F := F)).nSub 0) =>
          tilePay d (2 * s.val + c.val) (tok (2 * s.val + c.val)) fi fh fv fo) := by
  rw [← bigSep_tiles (fun w => tilePay d w (tok w) fi fh fv fo)]
  unfold wholes kept tilePay
  rw [bigSep_sep', bigSep_sep', bigSep_sep', rows_whole]
  iintro ⟨Hi, Hh, Hv, Ho⟩
  ihave Hi := (Transfers.pointsTo_toks_range fullShare 32).1 $$ Hi
  icases Hi with ⟨Hi, Hi'⟩
  ihave Hh := (Transfers.pointsTo_toks_range fullShare 32).1 $$ Hh
  icases Hh with ⟨Hh, Hh'⟩
  ihave Hv := (Transfers.pointsTo_toks_range fullShare 32).1 $$ Hv
  icases Hv with ⟨Hv, Hv'⟩
  isplitl [Hi Hh Hv]
  · isplitl [Hi]; · iexact Hi
    isplitl [Hh] <;> iassumption
  isplitl [Hi']; · iexact Hi'
  isplitl [Hh']; · iexact Hh'
  isplitl [Hv'] <;> iassumption

theorem wholes_join (d : Dev nD) (fi : Buf (Elt F) (iLoc d)) (fh : Buf (Elt F) (hLoc d)) (fv : Buf (Elt F) (vLoc d)) (fo : Buf (Elt F) (oLoc d)) :
    iprop(kept d fi fh fv
      ∗ bigSep Finset.univ fun c : Fin ((K (F := F)).nCore 0) => bigSep Finset.univ fun s : Fin ((K (F := F)).nSub 0) =>
          tilePay d (2 * s.val + c.val) (tok (2 * s.val + c.val)) fi fh fv fo) ⊢ (wholes d fi fh fv fo : sProp 𝕄) := by
  rw [← bigSep_tiles (fun w => tilePay d w (tok w) fi fh fv fo)]
  unfold wholes kept tilePay
  rw [bigSep_sep', bigSep_sep', bigSep_sep', rows_whole]
  iintro ⟨⟨Hi, Hh, Hv⟩, Hi', Hh', Hv', Ho⟩
  isplitl [Hi Hi']; · iapply (Transfers.pointsTo_toks_range fullShare 32).2; isplitl [Hi] <;> iassumption
  isplitl [Hh Hh']; · iapply (Transfers.pointsTo_toks_range fullShare 32).2; isplitl [Hh] <;> iassumption
  isplitl [Hv Hv']; · iapply (Transfers.pointsTo_toks_range fullShare 32).2; isplitl [Hv] <;> iassumption
  iexact Ho

end Cert.Proof.Mem

end
-- ==== Proof.Stages.lean ====
/-
  The straight lines of host operations before and after the TensorCore call, and the contents of the arrays at each stage of
  the program.
-/
module

public import proofs.«01_k».proof.Proof.Region
public import proofs.«01_k».proof.Proof.Call
public import Idealize.ShloMosaic.Lib.StableHlo.Run
public import Idealize.ShloMosaic.Lib.Pipeline.FrameBody
public import Idealize.ShloMosaic.Lib.Pipeline.Value
public import Idealize.ShloMosaic.Lib.Pipeline.RegionsLoop

@[expose] public section

noncomputable section

namespace Cert.Proof.Mem

open Cert.KernelIdeal Cert.KernelIdeal.Gen

open Idealize.ShloMosaic Idealize.ShloMosaic.TcCoe
open Idealize.ShloMosaic.SparseCore.Cfg (HIx)
open Idealize.ShloMosaic.StableHlo (held held_sub_split held_congr seq seqK after seq_bind_seqK wp_seq)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

/-! ## The lines -/

/-- Before the TensorCore call: the weights transposed, the biases sliced, the first two pairs summed. -/
def opsA : List (HloOp τ sig (Elt F)) :=
  [StableHlo.unary main_arg4 main_v1 ((transpose S64x192 [1, 0] · transposes_S192x64_S64x192_1_0) : (⟨S192x64, .f32⟩ : BufTy).Contents (Elt F) → (⟨S64x192, .f32⟩ : BufTy).Contents (Elt F)),
   StableHlo.unary main_arg5 main_v2 ((transpose S64x192 [1, 0] · transposes_S192x64_S64x192_1_0) : (⟨S192x64, .f32⟩ : BufTy).Contents (Elt F) → (⟨S64x192, .f32⟩ : BufTy).Contents (Elt F)),
   StableHlo.unary main_arg6 main_v3 ((extractStridedSlice S64 ![0] · slices_S192_S64_0) : (⟨S192, .f32⟩ : BufTy).Contents (Elt F) → (⟨S64, .f32⟩ : BufTy).Contents (Elt F)),
   StableHlo.unary main_arg7 main_v4 ((extractStridedSlice S64 ![0] · slices_S192_S64_0) : (⟨S192, .f32⟩ : BufTy).Contents (Elt F) → (⟨S64, .f32⟩ : BufTy).Contents (Elt F)),
   StableHlo.binary main_v3 main_v4 main_v5 (addf : (⟨S64, .f32⟩ : BufTy).Contents (Elt F) → (⟨S64, .f32⟩ : BufTy).Contents (Elt F) → (⟨S64, .f32⟩ : BufTy).Contents (Elt F)),
   StableHlo.reshape main_v5 main_v6 (rfl : (.f32 : EltTy) = .f32) shapeCasts_S64_S1x64,
   StableHlo.unary main_arg6 main_v7 ((extractStridedSlice S64 ![64] · slices_S192_S64_64) : (⟨S192, .f32⟩ : BufTy).Contents (Elt F) → (⟨S64, .f32⟩ : BufTy).Contents (Elt F)),
   StableHlo.unary main_arg7 main_v8 ((extractStridedSlice S64 ![64] · slices_S192_S64_64) : (⟨S192, .f32⟩ : BufTy).Contents (Elt F) → (⟨S64, .f32⟩ : BufTy).Contents (Elt F)),
   StableHlo.binary main_v7 main_v8 main_v9 (addf : (⟨S64, .f32⟩ : BufTy).Contents (Elt F) → (⟨S64, .f32⟩ : BufTy).Contents (Elt F) → (⟨S64, .f32⟩ : BufTy).Contents (Elt F)),
   StableHlo.reshape main_v9 main_v10 (rfl : (.f32 : EltTy) = .f32) shapeCasts_S64_S1x64,
   StableHlo.unary main_arg6 main_v11 ((extractStridedSlice S64 ![128] · slices_S192_S64_128) : (⟨S192, .f32⟩ : BufTy).Contents (Elt F) → (⟨S64, .f32⟩ : BufTy).Contents (Elt F)),
   StableHlo.reshape main_v11 main_v12 (rfl : (.f32 : EltTy) = .f32) shapeCasts_S64_S1x64,
   StableHlo.unary main_arg7 main_v13 ((extractStridedSlice S64 ![128] · slices_S192_S64_128) : (⟨S192, .f32⟩ : BufTy).Contents (Elt F) → (⟨S64, .f32⟩ : BufTy).Contents (Elt F)),
   StableHlo.reshape main_v13 main_v14 (rfl : (.f32 : EltTy) = .f32) shapeCasts_S64_S1x64]

theorem opsA_sub : (opsA : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub ..⟩

theorem opsA_fresh : ∀ op ∈ (opsA : List (HloOp τ sig (Elt F))), op.fresh = ∅ :=
  List.forall_iff_forall_mem.mp (StableHlo.forall_fresh_of_map rfl)

theorem opsA_uc : ∀ op ∈ (opsA : List (HloOp τ sig (Elt F))), op.bufs ⊆ Pipeline.ucRefs τ sig := fun op h =>
  Pipeline.sub_ucRefs op (List.forall_iff_forall_mem.mp opsA_sub op h)

/-- After it: the two scatters at the normalised indices, and their stack. -/
def opsB : List (HloOp τ sig (Elt F)) :=
  [StableHlo.nullary main_c (constantI S_ 32 0#32),
   StableHlo.unary main_c main_v16 (broadcastInDim S16384 ![] bcast_S_S16384 : (⟨S_, .i32⟩ : BufTy).Contents (Elt F) → (⟨S16384, .i32⟩ : BufTy).Contents (Elt F)),
   StableHlo.binary main_arg1 main_v16 main_v17 (cmpi .slt : (⟨S16384, .i32⟩ : BufTy).Contents (Elt F) → (⟨S16384, .i32⟩ : BufTy).Contents (Elt F) → (⟨S16384, .i1⟩ : BufTy).Contents (Elt F)),
   StableHlo.nullary main_c_0 (constantI S_ 32 100000#32),
   StableHlo.unary main_c_0 main_v18 (broadcastInDim S16384 ![] bcast_S_S16384 : (⟨S_, .i32⟩ : BufTy).Contents (Elt F) → (⟨S16384, .i32⟩ : BufTy).Contents (Elt F)),
   StableHlo.binary main_arg1 main_v18 main_v19 (addi : (⟨S16384, .i32⟩ : BufTy).Contents (Elt F) → (⟨S16384, .i32⟩ : BufTy).Contents (Elt F) → (⟨S16384, .i32⟩ : BufTy).Contents (Elt F)),
   StableHlo.ternary main_v17 main_v19 main_arg1 main_v20 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
   StableHlo.unary main_v20 main_v21 (broadcastInDim S16384x1 ![0] bcast_S16384_S16384x1_0 : (⟨S16384, .i32⟩ : BufTy).Contents (Elt F) → (⟨S16384x1, .i32⟩ : BufTy).Contents (Elt F)),
   StableHlo.ternary main_arg2 main_v21 main_v15_0 main_v22 ((fun x i u => Host.scatter scatter_S100000x64_S16384x1_S16384x64_1_0_0_1 (fun _ b => b) x i u) : (⟨S100000x64, .f32⟩ : BufTy).Contents (Elt F) → (⟨S16384x1, .i32⟩ : BufTy).Contents (Elt F) → (⟨S16384x64, .f32⟩ : BufTy).Contents (Elt F) → (⟨S100000x64, .f32⟩ : BufTy).Contents (Elt F)),
   StableHlo.nullary main_c_1 (constantI S_ 32 0#32),
   StableHlo.unary main_c_1 main_v23 (broadcastInDim S16384 ![] bcast_S_S16384 : (⟨S_, .i32⟩ : BufTy).Contents (Elt F) → (⟨S16384, .i32⟩ : BufTy).Contents (Elt F)),
   StableHlo.binary main_arg1 main_v23 main_v24 (cmpi .slt : (⟨S16384, .i32⟩ : BufTy).Contents (Elt F) → (⟨S16384, .i32⟩ : BufTy).Contents (Elt F) → (⟨S16384, .i1⟩ : BufTy).Contents (Elt F)),
   StableHlo.nullary main_c_2 (constantI S_ 32 100000#32),
   StableHlo.unary main_c_2 main_v25 (broadcastInDim S16384 ![] bcast_S_S16384 : (⟨S_, .i32⟩ : BufTy).Contents (Elt F) → (⟨S16384, .i32⟩ : BufTy).Contents (Elt F)),
   StableHlo.binary main_arg1 main_v25 main_v26 (addi : (⟨S16384, .i32⟩ : BufTy).Contents (Elt F) → (⟨S16384, .i32⟩ : BufTy).Contents (Elt F) → (⟨S16384, .i32⟩ : BufTy).Contents (Elt F)),
   StableHlo.ternary main_v24 main_v26 main_arg1 main_v27 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
   StableHlo.unary main_v27 main_v28 (broadcastInDim S16384x1 ![0] bcast_S16384_S16384x1_0 : (⟨S16384, .i32⟩ : BufTy).Contents (Elt F) → (⟨S16384x1, .i32⟩ : BufTy).Contents (Elt F)),
   StableHlo.ternary main_arg3 main_v28 main_v15_1 main_v29 ((fun x i u => Host.scatter scatter_S100000x64_S16384x1_S16384x64_1_0_0_1 (fun _ b => b) x i u) : (⟨S100000x64, .f32⟩ : BufTy).Contents (Elt F) → (⟨S16384x1, .i32⟩ : BufTy).Contents (Elt F) → (⟨S16384x64, .f32⟩ : BufTy).Contents (Elt F) → (⟨S100000x64, .f32⟩ : BufTy).Contents (Elt F)),
   StableHlo.unary main_v22 main_v30 (broadcastInDim S1x100000x64 ![1, 2] bcast_S100000x64_S1x100000x64_1_2 : (⟨S100000x64, .f32⟩ : BufTy).Contents (Elt F) → (⟨S1x100000x64, .f32⟩ : BufTy).Contents (Elt F)),
   StableHlo.unary main_v29 main_v31 (broadcastInDim S1x100000x64 ![1, 2] bcast_S100000x64_S1x100000x64_1_2 : (⟨S100000x64, .f32⟩ : BufTy).Contents (Elt F) → (⟨S1x100000x64, .f32⟩ : BufTy).Contents (Elt F)),
   StableHlo.binary main_v30 main_v31 main_v32 ((fun a b => concatenate S2x100000x64 0 [⟨S1x100000x64, a⟩, ⟨S1x100000x64, b⟩] concatenates_S1x100000x64_S1x100000x64_S2x100000x64_d0) : (⟨S1x100000x64, .f32⟩ : BufTy).Contents (Elt F) → (⟨S1x100000x64, .f32⟩ : BufTy).Contents (Elt F) → (⟨S2x100000x64, .f32⟩ : BufTy).Contents (Elt F))]

theorem opsB_sub : (opsB : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.binary_bufs_sub ..⟩

theorem opsB_fresh : ∀ op ∈ (opsB : List (HloOp τ sig (Elt F))), op.fresh = ∅ :=
  List.forall_iff_forall_mem.mp (StableHlo.forall_fresh_of_map rfl)

theorem opsB_uc : ∀ op ∈ (opsB : List (HloOp τ sig (Elt F))), op.bufs ⊆ Pipeline.ucRefs τ sig := fun op h =>
  Pipeline.sub_ucRefs op (List.forall_iff_forall_mem.mp opsB_sub op h)

theorem main_eq (d : Dev nD) : main (F := F) d = (sc (F := F)).run d 0 >>= fun _ => seq opsA >>= fun _ =>
    Prog.lift (.customCall (SparseCore.inner (Pipeline.entry 0)) ()) >>= fun _ => seq opsB >>= fun _ => pure ⟨⟩ := by
  simp only [seq_bind_seqK]
  rfl

/-! ## The contents at each stage -/

abbrev tcRef (b : Ref sig .tc) : DevRef τ sig := Proc.devRef (τ := τ) .tc b

/-- At launch, -/
def W0 (d : Dev nD) : Valuation τ sig (Elt F) := fun b => m (d, b)
/-- after the SparseCore call, -/
def W1 (d : Dev nD) : Valuation τ sig (Elt F) :=
  Function.update (W0 m d) (tcRef main_v0) (gathered (m (iLoc d)) (m (hLoc d)) (m (vLoc d)))
/-- after the first line, -/
def W2 (d : Dev nD) : Valuation τ sig (Elt F) := after opsA (W1 m d)
/-- the same by the TensorCore's own references, -/
def V2 (d : Dev nD) (b : Ref sig .tc) : Buf (Elt F) ((d : Thread nD τ).loc b) := W2 m d (tcRef b)
/-- after the TensorCore call, -/
def W3 (d : Dev nD) : Valuation τ sig (Elt F) :=
  Function.update (Function.update (W2 m d) (tcRef main_v15_0) ((dat (V2 m) d).arrAt 8 cfg1.N)) (tcRef main_v15_1) ((dat (V2 m) d).arrAt 9 cfg1.N)
/-- and at the end. -/
def W4 (d : Dev nD) : Valuation τ sig (Elt F) := after opsB (W3 m d)

def V3 (d : Dev nD) (b : Ref sig .tc) : Buf (Elt F) ((d : Thread nD τ).loc b) := W3 m d (tcRef b)

theorem V3_8 (d : Dev nD) : V3 m d main_v15_0 = (dat (V2 m) d).arrAt 8 cfg1.N := by
  unfold V3 W3
  exact (Function.update_of_ne (StableHlo.devRef_ne_of_ne (show main_v15_0 ≠ main_v15_1 by decide)) _ _).trans (Function.update_self (tcRef main_v15_0) _ (W2 m d))
theorem V3_9 (d : Dev nD) : V3 m d main_v15_1 = (dat (V2 m) d).arrAt 9 cfg1.N := by
  unfold V3 W3
  exact Function.update_self (tcRef main_v15_1) _ _
theorem V3_ne (d : Dev nD) (b : Ref sig .tc) (h0 : b ≠ main_v15_0) (h1 : b ≠ main_v15_1) : V3 m d b = V2 m d b :=
  (Function.update_of_ne (StableHlo.devRef_ne_of_ne h1) _ _).trans (Function.update_of_ne (StableHlo.devRef_ne_of_ne h0) _ _)

/-! ## The SparseCore call's four arrays -/

/-- `idx`, `hidden`, `variance` and the gathered rows. -/
def four : Finset (DevRef τ sig) := {tcRef main_arg1, tcRef main_arg2, tcRef main_arg3, tcRef main_v0}

theorem four_sub : four ⊆ Pipeline.ucRefs τ sig := by decide

theorem held_four (d : Dev nD) (W : Valuation τ sig (Elt F)) : (held (SparseCore.T d : Thread nD τ) four W : sProp 𝕄)
    = wholes d (W (tcRef main_arg1)) (W (tcRef main_arg2)) (W (tcRef main_arg3)) (W (tcRef main_v0)) := by
  unfold held four wholes
  rw [SparseCore.bigSep_insert' (by decide), SparseCore.bigSep_insert' (by decide), SparseCore.bigSep_insert' (by decide), bigSep_singleton]

/-- The arrays at launch: the four, and the rest. -/
theorem arrays_split (d : Dev nD) : (unscopedBufs d (fun b => m ((SparseCore.T d : Thread nD τ).loc b)) : sProp 𝕄)
    = iprop(wholes d (m (iLoc d)) (m (hLoc d)) (m (vLoc d)) (m (oLoc d)) ∗ held (SparseCore.T d : Thread nD τ) (Pipeline.ucRefs τ sig \ four) (W0 m d)) := by
  rw [show (unscopedBufs d (fun b => m ((SparseCore.T d : Thread nD τ).loc b)) : sProp 𝕄) = held (SparseCore.T d : Thread nD τ) (Pipeline.ucRefs τ sig) (W0 m d)
      from Pipeline.unscopedBufs_held d (W0 m d), held_sub_split _ four_sub, held_four]
  try rfl

/-- The arrays after the call, from the four and the rest. -/
theorem arrays_join (d : Dev nD) :
    (iprop(wholes d (m (iLoc d)) (m (hLoc d)) (m (vLoc d)) (gathered (m (iLoc d)) (m (hLoc d)) (m (vLoc d)))
      ∗ held (SparseCore.T d : Thread nD τ) (Pipeline.ucRefs τ sig \ four) (W0 m d)) : sProp 𝕄)
    = held (SparseCore.T d : Thread nD τ) (Pipeline.ucRefs τ sig) (W1 m d) := by
  rw [held_sub_split _ four_sub (W1 m d), held_four]
  refine congrArg₂ BI.sep ?_ ?_
  · rw [show W1 m d (tcRef main_v0) = _ from Function.update_self _ _ _,
      show W1 m d (tcRef main_arg1) = W0 m d (tcRef main_arg1) from Function.update_of_ne (by decide) _ _,
      show W1 m d (tcRef main_arg2) = W0 m d (tcRef main_arg2) from Function.update_of_ne (by decide) _ _,
      show W1 m d (tcRef main_arg3) = W0 m d (tcRef main_arg3) from Function.update_of_ne (by decide) _ _]
    rfl
  · exact held_congr _ fun b hb => (Function.update_of_ne (show b ≠ tcRef main_v0 from fun h => (Finset.mem_sdiff.mp hb).2 (h.symm ▸ (by decide : tcRef main_v0 ∈ four))) _ _).symm

end Cert.Proof.Mem

end
-- ==== Proof.Main.lean ====
/-
  The whole program's run: from any memory whose indices are in range it ends with the arrays at the last stage's contents and
  every semaphore at zero.
-/
module

public import proofs.«01_k».proof.Proof.Stages
public import Idealize.ShloMosaic.Lib.SparseCore.Quiescent
public import Idealize.ShloMosaic.Lib.Pipeline.FrameBody
public import Idealize.ShloMosaic.Lib.Pipeline.Value
public import Idealize.ShloMosaic.Lib.Pipeline.RegionsLoop

@[expose] public section

noncomputable section

namespace Cert.Proof.Mem

open Cert.KernelIdeal Cert.KernelIdeal.Gen

open Idealize.ShloMosaic Idealize.ShloMosaic.TcCoe
open Idealize.ShloMosaic.SparseCore.Cfg (HIx)
open Idealize.ShloMosaic.StableHlo (held held_sub_split held_congr seq seqK after seq_bind_seqK wp_seq)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state at launch -/

/-- The calls' handshakes, the pipeline's rounds, the transfers' counters. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- The pipeline's ghost state on device `d`. -/
def ghost (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave HR := (own_pair_emb _ _ _) $$ HR
  icases HR with ⟨HP, -⟩
  imod (Pipeline.fund_ghost (Pipeline.pin (pcfgs (F := F)) adm) EP cellOf_inj) $$ HP with ⟨Hg, Ht⟩
  imodintro
  isplitl [HH]; · iexact HH
  isplitl [Hg Ht]
  · unfold ghost
    rw [bigSep_sep']
    isplitl [Hg]
    · rw [show (bigSep Finset.univ fun d : Dev nD => Pipeline.cellsGhost (Pipeline.pin (pcfgs (F := F)) adm) EP 0 d : sProp 𝕄)
        = bigSep Finset.univ fun d : Dev nD => bigSep Finset.univ fun p : Fin 1 => Pipeline.cellsGhost (Pipeline.pin (pcfgs (F := F)) adm) EP p d from
        bigSep_congr fun d _ => (bigSep_univ_of_subsingleton (Φ := fun p : Fin 1 => (Pipeline.cellsGhost (Pipeline.pin (pcfgs (F := F)) adm) EP p d : sProp 𝕄)) (0 : Fin 1)).symm]
      iexact Hg
    · rw [show (bigSep Finset.univ fun d : Dev nD => Pipeline.toksInit (Pipeline.pin (pcfgs (F := F)) adm) EP 0 d : sProp 𝕄)
        = bigSep Finset.univ fun d : Dev nD => bigSep Finset.univ fun p : Fin 1 => Pipeline.toksInit (Pipeline.pin (pcfgs (F := F)) adm) EP p d from
        bigSep_congr fun d _ => (bigSep_univ_of_subsingleton (Φ := fun p : Fin 1 => (Pipeline.toksInit (Pipeline.pin (pcfgs (F := F)) adm) EP p d : sProp 𝕄)) (0 : Fin 1)).symm]
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore call, inside the extended body table -/

theorem pre_of (d : Dev nD) : (iprop(held (SparseCore.T d : Thread nD τ) (Pipeline.ucRefs τ sig) (W2 m d) ∗ noDebt d) : sProp 𝕄)
    = iprop(unscopedBufs d (V2 m d) ∗ noDebt d) := by
  rw [show (unscopedBufs d (V2 m d) : sProp 𝕄) = held (SparseCore.T d : Thread nD τ) (Pipeline.ucRefs τ sig) (W2 m d) from Pipeline.unscopedBufs_held d (W2 m d)]

theorem post_of (d : Dev nD) : (iprop(unscopedBufs d (V3 m d) ∗ noDebt d) : sProp 𝕄)
    = iprop(held (SparseCore.T d : Thread nD τ) (Pipeline.ucRefs τ sig) (W3 m d) ∗ noDebt d) := by
  rw [show (unscopedBufs d (V3 m d) : sProp 𝕄) = held (SparseCore.T d : Thread nD τ) (Pipeline.ucRefs τ sig) (W3 m d) from Pipeline.unscopedBufs_held d (W3 m d)]

/-- The region, from the contents before the call to those after it. -/
def region [∀ e, Nonempty (Elt F e)] := reg (V2 m) (V3 m) (V3_8 m) (V3_9 m) (V3_ne m)

/-- The call, under the certificate's own body table. -/
def entryProg : Prog (TpuEff nD τ sig (Elt F) (ΛP (F := F)) .tc) PUnit := .op (.customCall (Pipeline.entry 0) ()) fun r => .ret r

theorem wp_region [∀ e, Nonempty (Elt F e)] (d : Dev nD) (Q : PUnit → sProp 𝕄) :
    (iprop(((boundary (SparseCore.T d : Thread nD τ) ∗ held (SparseCore.T d : Thread nD τ) (Pipeline.ucRefs τ sig) (W3 m d) ∗ noDebt d) -∗ Q ⟨⟩)
      ∗ boundary (SparseCore.T d : Thread nD τ) ∗ held (SparseCore.T d : Thread nD τ) (Pipeline.ucRefs τ sig) (W2 m d) ∗ noDebt d
      ∗ levAts (K (F := F)).L (K (F := F)).lev ∗ ghost d) : sProp 𝕄)
    ⊢ wp frame (wpE ((K (F := F)).defs (D (F := F))) 𝒱 (SparseCore.T d) none) Set.univ
        (Prog.lift (.customCall (SparseCore.inner (Pipeline.entry 0)) ())) Q := by
  refine BIBase.Entails.trans ?_ ((K (F := F)).wp_liftProg (D (F := F)) 𝒱 (SparseCore.T d) Set.univ none (entryProg (F := F)) Q)
  have h := Pipeline.RegionSeg.wp (pcfgs (F := F)) adm (pdats (V2 m)) (none : HIx 1) cellOf_inj EP defs₀ 𝒱₀ (K (F := F)).L (K (F := F)).lev
    (p := (0 : Fin 1)) (region m) d none (fun u hu => nomatch hu) (fun r => .ret r) Q
  unfold entryProg
  refine BIBase.Entails.trans ?_ h
  iintro ⟨Hk, Hb, Hh, HO, Hl, Hg⟩
  unfold ghost
  icases Hg with ⟨Hc, Ht⟩
  isplitl [Hk]
  · iintro ⟨Hb, Hpost⟩
    ihave Hpost := (Entails.of_eq (show (region m).post d = _ from post_of m d)) $$ Hpost
    icases Hpost with ⟨Hh, HO⟩
    rw [wp_ret]; imodintro
    iapply Hk
    isplitl [Hb]; · iexact Hb
    isplitl [Hh] <;> iassumption
  isplitl [Hb]; · iexact Hb
  isplitl [Hh HO]
  · iapply (Entails.of_eq (show _ = (region m).pre d from pre_of m d))
    isplitl [Hh] <;> iassumption
  isplitl [Hl]; · iexact Hl
  isplitl [Hc] <;> iassumption

/-! ## The TensorCore's program -/

abbrev FIN (d : Dev nD) : sProp 𝕄 := held (SparseCore.T d : Thread nD τ) (Pipeline.ucRefs τ sig) (W4 m d)

/-- Every recorded wait is below the next call's: there is none. -/
theorem below_all (thr : Thread nD τ) (W : Waits sig (HIx 1)) : (K (F := F)).WBelow thr W (8 * 1) := fun p _ => by
  rcases p with ⟨sm, _ | q⟩
  · exact Nat.zero_le _
  · have := (K (F := F)).lev_some_le (thr, sm) q
    have hq := q.isLt
    exact this.trans (by omega)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_split, main_eq, wp_bind]
  iintro ⟨#Hctx, Hst, ⟨Hb, ⟨Hw, Hrest⟩, Hts, -⟩, Hg⟩
  ihave Hw := (wholes_split d _ _ _ _) $$ Hw
  icases Hw with ⟨Hkept, Hst0⟩
  iapply ((K (F := F)).wp_run (D (F := F)) 𝒱 (EH := EH) (P := P m) κ d 0) $$ [Hst Hst0 Hkept Hrest Hb Hts Hg]
  isplitr; · iexact Hctx
  isplitl [Hst]; · iexact Hst
  isplitl [Hst0]; · iexact Hst0
  iintro ⟨Hst, Hdn⟩
  ihave Hw := (wholes_join d (m (iLoc d)) (m (hLoc d)) (m (vLoc d)) (gathered (m (iLoc d)) (m (hLoc d)) (m (vLoc d)))) $$ [Hkept Hdn]
  · isplitl [Hkept]; · iexact Hkept
    iexact Hdn
  ihave Hh := (Entails.of_eq (arrays_join m d)) $$ [Hw Hrest]
  · isplitl [Hw] <;> iassumption
  iapply (wp_seq 𝒱 none Set.univ d (Pipeline.ucRefs τ sig) _ opsA opsA_uc opsA_fresh (W1 m d)) $$ [Hb Hh]
  · isplitl [Hb] <;> iassumption
  iintro ⟨Hb, Hh⟩
  rw [wp_bind]
  unfold SparseCore.Cfg.tcSt
  icases Hst with ⟨⟨%W, -, HO⟩, Hrest'⟩
  unfold SparseCore.Cfg.ctx
  icases Hctx with ⟨#Hl, -⟩
  iapply (wp_region m d _)
  isplitr [Hb Hh HO Hg]
  · iintro ⟨Hb, Hh, HO⟩
    iapply (wp_seq 𝒱 none Set.univ d (Pipeline.ucRefs τ sig) _ opsB opsB_uc opsB_fresh (W3 m d)) $$ [Hb Hh]
    · isplitl [Hb] <;> iassumption
    iintro ⟨Hb, Hh⟩
    rw [wp_pure]; imodintro
    isplitl [HO Hrest']
    · isplitl [HO]
      · unfold noDebt
        icases HO with ⟨%W', HO⟩
        iexists W'
        isplitr; · ipureintro; exact below_all _ _
        rw [(K (F := F)).Otc_end d (le_refl 1)]
        iexact HO
      iexact Hrest'
    isplitl [Hh]; · iexact Hh
    isplitl [Hb] <;> iassumption
  isplitl [Hb]; · iexact Hb
  isplitl [Hh]; · iexact Hh
  isplitl [HO]
  · unfold noDebt
    iexists W
    rw [← (K (F := F)).Otc_end d (le_refl 1)]
    iexact HO
  isplitr; · iexact Hl
  iexact Hg

/-! ## The final memory -/

/-- The TensorCore's unscoped arrays at the last stage's contents. -/
def fq (d : Dev nD) (s' : Phys nD τ sig (Elt F)) : Prop := ∀ b ∈ Pipeline.ucRefs τ sig, s'.mem.mem (d, b) = W4 m d b

theorem hfin (d : Dev nD) (s' : Phys nD τ sig (Elt F)) : iprop(FIN m d ∗ SI s') ⊢ (⌜fq m d s'⌝ : sProp 𝕄) := by
  unfold fq
  refine BIBase.Entails.trans ?_ pure_forall.2
  refine forall_intro fun b => ?_
  refine BIBase.Entails.trans ?_ pure_forall.2
  refine forall_intro fun hb => ?_
  iintro ⟨Hh, HSI⟩
  ihave Hb := (show (FIN m d : sProp 𝕄) ⊢ ((d, b) ↦{fullShare} W4 m d b) from bigSep_elim hb) $$ Hh
  ihave H := (SI_pointsTo_agree (st := s') (ℓ := (d, b)) (I := Finset.univ) (q := fullShare) (f := W4 m d b)) $$ [HSI Hb]
  · isplitl [HSI] <;> iassumption
  icases H with %h
  ipureintro; exact funext fun i => h i (Finset.mem_univ i)

def QC : PUnit × MemSt nD τ sig (Elt F) → Prop := fun r => (∀ d : Dev nD, ∀ b ∈ Pipeline.ucRefs τ sig, r.2.mem (d, b) = W4 m d b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => ghost d) (FIN m) (u₀ (F := F)) (sep_elim_left.trans (hu₀ m)) (hmain m ρ) (fq m) (hfin m) (QC m) (fun _ h hz => ⟨h, hz⟩)

end Cert.Proof.Mem

end
-- ==== Proof.Frames.lean ====
/-
  What the precondition says of the indices, and that no argument array is written: the run at the two float types, read as the
  frame claims state it.
-/
module

public import proofs.«01_k».proof.Defs
public import proofs.«01_k».proof.Proof.Main
public import proofs.«01_k».proof.Proof.Gen.Kernel
public import proofs.«01_k».proof.Proof.Gen.Pre_in_range
public import Idealize.ShloMosaic.Lib.ReduceAll

@[expose] public section

noncomputable section

namespace Cert.Proof.Mem

open Cert.KernelIdeal Cert.KernelIdeal.Gen

open Idealize.ShloMosaic Idealize.ShloMosaic.TcCoe
open Idealize.ShloMosaic.StableHlo (after)
open Idealize.SL.Sem

variable {F : FTy → Type} [FloatOps F]

/-! ## The precondition -/

/-- A word that is at least 0 and below 100000 as a signed number is below 100000 as a natural one. -/
theorem toNat_of_range (v : BitVec 32) (e : IntOp.andi (IntOp.cmpi .sge v 0#32) (IntOp.cmpi .slt v 100000#32) = 1#1) : v.toNat < 100000 := by
  have hand : ∀ p q : Bool, IntOp.andi (BitVec.ofBool p) (BitVec.ofBool q) = BitVec.ofBool (p && q) := by
    intro p q; cases p <;> cases q <;> decide
  have hone : ∀ p : Bool, (BitVec.ofBool p = 1#1) ↔ p = true := by
    intro p; cases p <;> decide
  simp only [IntOp.cmpi, hand, hone, Bool.and_eq_true, BitVec.sle_eq_decide, BitVec.slt_eq_decide, decide_eq_true_eq,
    BitVec.toInt_eq_toNat_cond, BitVec.toNat_ofNat, Nat.reducePow, Nat.reduceMod] at e
  omega

/-- Where the precondition is all ones, every index is. -/
theorem toNat_of_pre {a0 : FVec F Cert.Pre_in_range.S16384x64 .f32} {a1 : IVec Cert.Pre_in_range.S16384 32}
    {a2 a3 : FVec F Cert.Pre_in_range.S100000x64 .f32} {a4 a5 : FVec F Cert.Pre_in_range.S192x64 .f32}
    {a6 a7 : FVec F Cert.Pre_in_range.S192 .f32} (h : Cert.Pre_in_range.fn a0 a1 a2 a3 a4 a5 a6 a7 = fun _ => 1#1)
    (j : Cert.Pre_in_range.S16384.Idx) : (a1 j : BitVec 32).toNat < 100000 := by
  haveI : Subsingleton Cert.Pre_in_range.S_.Idx := ⟨fun a b => funext fun i => i.elim0⟩
  exact toNat_of_range _ (Host.reduce_andi_all _ _ _ _ (fun i => i.elim0) (congrFun h _) j)

/-! ## The arguments are never written -/

/-- What the line before the TensorCore call writes, -/
def writesA : List (Ref sig .tc) :=
  [main_v1, main_v2, main_v3, main_v4, main_v5, main_v6, main_v7, main_v8, main_v9, main_v10, main_v11, main_v12, main_v13, main_v14]
/-- and the line after it. -/
def writesB : List (Ref sig .tc) :=
  [main_c, main_v16, main_v17, main_c_0, main_v18, main_v19, main_v20, main_v21, main_v22, main_c_1, main_v23, main_v24, main_c_2,
    main_v25, main_v26, main_v27, main_v28, main_v29, main_v30, main_v31, main_v32]

variable (m : (ℓ : Loc nD τ sig) → Buf (Elt F) ℓ)

theorem W2_of_not_written (d : Dev nD) (b : Ref sig .tc) (h0 : b ≠ main_v0) (hA : b ∉ writesA) : W2 m d (tcRef b) = m (d, tcRef b) :=
  (StableHlo.after_of_writes_sub opsA (W1 m d) (StableHlo.forall_writes_sub_of_map (W := writesA) rfl) hA).trans
    (Function.update_of_ne (StableHlo.devRef_ne_of_ne h0) _ _)

theorem W4_of_not_written (d : Dev nD) (b : Ref sig .tc) (h0 : b ≠ main_v0) (h1 : b ≠ main_v15_0) (h2 : b ≠ main_v15_1)
    (hA : b ∉ writesA) (hB : b ∉ writesB) : W4 m d (tcRef b) = m (d, tcRef b) :=
  ((StableHlo.after_of_writes_sub opsB (W3 m d) (StableHlo.forall_writes_sub_of_map (W := writesB) rfl) hB).trans (V3_ne m d b h1 h2)).trans
    (W2_of_not_written m d b h0 hA)

/-- A reference written by nothing of the program: what an argument satisfies. -/
structure Unwritten (b : Ref sig .tc) : Prop where
  v0 : b ≠ main_v0
  v15_0 : b ≠ main_v15_0
  v15_1 : b ≠ main_v15_1
  lineA : b ∉ writesA
  lineB : b ∉ writesB
  unscoped : tcRef b ∈ Pipeline.ucRefs τ sig

theorem arg_end {r : PUnit × MemSt nD τ sig (Elt F)} (h : QC m r) (d : Dev nD) {b : Ref sig .tc} (hb : Unwritten b) :
    r.2.mem (d, tcRef b) = m (d, tcRef b) :=
  (h.1 d _ hb.unscoped).trans (W4_of_not_written m d b hb.v0 hb.v15_0 hb.v15_1 hb.lineA hb.lineB)

theorem arg0_unwritten : Unwritten main_arg0 := ⟨by decide, by decide, by decide, by decide, by decide, by decide⟩
theorem arg1_unwritten : Unwritten main_arg1 := ⟨by decide, by decide, by decide, by decide, by decide, by decide⟩
theorem arg2_unwritten : Unwritten main_arg2 := ⟨by decide, by decide, by decide, by decide, by decide, by decide⟩
theorem arg3_unwritten : Unwritten main_arg3 := ⟨by decide, by decide, by decide, by decide, by decide, by decide⟩
theorem arg4_unwritten : Unwritten main_arg4 := ⟨by decide, by decide, by decide, by decide, by decide, by decide⟩
theorem arg5_unwritten : Unwritten main_arg5 := ⟨by decide, by decide, by decide, by decide, by decide, by decide⟩
theorem arg6_unwritten : Unwritten main_arg6 := ⟨by decide, by decide, by decide, by decide, by decide, by decide⟩
theorem arg7_unwritten : Unwritten main_arg7 := ⟨by decide, by decide, by decide, by decide, by decide, by decide⟩

/-- The eight arguments, at any device. -/
theorem args_end {r : PUnit × MemSt nD τ sig (Elt F)} (h : QC m r) (d : Dev nD) :
    r.2.mem (d, tcRef main_arg0) = m (d, tcRef main_arg0) ∧ r.2.mem (d, tcRef main_arg1) = m (d, tcRef main_arg1)
    ∧ r.2.mem (d, tcRef main_arg2) = m (d, tcRef main_arg2) ∧ r.2.mem (d, tcRef main_arg3) = m (d, tcRef main_arg3)
    ∧ r.2.mem (d, tcRef main_arg4) = m (d, tcRef main_arg4) ∧ r.2.mem (d, tcRef main_arg5) = m (d, tcRef main_arg5)
    ∧ r.2.mem (d, tcRef main_arg6) = m (d, tcRef main_arg6) ∧ r.2.mem (d, tcRef main_arg7) = m (d, tcRef main_arg7) :=
  ⟨arg_end m h d arg0_unwritten, arg_end m h d arg1_unwritten, arg_end m h d arg2_unwritten, arg_end m h d arg3_unwritten,
    arg_end m h d arg4_unwritten, arg_end m h d arg5_unwritten, arg_end m h d arg6_unwritten, arg_end m h d arg7_unwritten⟩

/-! ## The two frames -/

/-- The run, read at the arguments and the counters. -/
theorem run_frame [∀ e, Nonempty (Elt F e)] (ρ : Dev nD → PrngReg) (hpre : PreOK m) :
    θ_run (Cert.KernelIdeal.defs (F := F)) (Cert.KernelIdeal.threads (F := F)) ⟨m, fun _ => 0, ρ⟩ fun r =>
      (∀ d : Dev nD, r.2.mem (d, tcRef main_arg0) = m (d, tcRef main_arg0) ∧ r.2.mem (d, tcRef main_arg1) = m (d, tcRef main_arg1)
        ∧ r.2.mem (d, tcRef main_arg2) = m (d, tcRef main_arg2) ∧ r.2.mem (d, tcRef main_arg3) = m (d, tcRef main_arg3)
        ∧ r.2.mem (d, tcRef main_arg4) = m (d, tcRef main_arg4) ∧ r.2.mem (d, tcRef main_arg5) = m (d, tcRef main_arg5)
        ∧ r.2.mem (d, tcRef main_arg6) = m (d, tcRef main_arg6) ∧ r.2.mem (d, tcRef main_arg7) = m (d, tcRef main_arg7))
      ∧ r.2.sem = fun _ => 0 :=
  (θ_run Cert.KernelIdeal.defs _ _).mono (fun _ h => ⟨fun c => args_end m h c, h.2⟩) (run_main m ρ hpre)

theorem frame_kernelIdeal : Cert.quiescent_KernelIdeal := fun m ρ hpre =>
  run_frame (F := Ideal) m ρ fun d j => toNat_of_pre (hpre d) j

/-! The program printed for the machine's own floats is the same text under its own names: its bodies are these. -/

set_option maxHeartbeats 8000000 in
theorem bodies_same : Cert.Kernel.defs₀ (F := F) = Cert.KernelIdeal.defs₀ (F := F) := by
  funext p ℓ a
  match p, ℓ, a with
  | .scVector c s, 0, _ => rfl
  | .tc, 1, (t, s) => rfl
  | .scVector c s, 1, _ => rfl
  | .tc, 0, _ => rfl
  | .scScalar c, 0, _ => rfl
  | .scScalar c, 1, _ => rfl

theorem defs_same : Cert.Kernel.defs (F := F) = Cert.KernelIdeal.defs (F := F) :=
  congrArg (fun d => (Cert.KernelIdeal.sc (F := F)).defs (Pipeline.defs (Cert.KernelIdeal.pcfgs (F := F)) d)) bodies_same

set_option maxHeartbeats 8000000 in
theorem frame_kernel : Cert.quiescent_Kernel := fun m ρ hpre => by
  rw [defs_same]
  exact run_frame (F := Bits) m ρ fun d j => toNat_of_pre (hpre d) j

end Cert.Proof.Mem

end
-- ==== Proof.RefFrame.lean ====
/-
  The reference's run read as its frame claims state it.
-/
module

public import proofs.«01_k».proof.Defs
public import proofs.«01_k».proof.Proof.Gen.ReferenceIdeal
public import proofs.«01_k».proof.Proof.Gen.ReferenceIdeal.Run
public import proofs.«01_k».proof.Proof.Gen.Pre_in_range
public import Idealize.ShloMosaic.Lib.Quiescent

@[expose] public section

noncomputable section

namespace Cert.Proof

open Idealize.ShloMosaic Idealize.SL.Sem

/-- The reference declares no semaphore and writes no argument. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, of the arguments in range. -/
theorem frame_referenceIdeal_pre : Cert.quiescent_ReferenceIdeal_pre_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Cells.lean ====
/-
  The recurrent unit's arithmetic for one element, over the extended reals, and the two arrays it fills. Both programs are
  read back to these.
-/
module

public import proofs.«01_k».proof.Proof.Body
public import Idealize.ShloMosaic.Lib.Pointwise
public import Idealize.ShloMosaic.Lib.Pipeline.ValueKit

@[expose] public section

set_option maxRecDepth 16384

noncomputable section

namespace Cert.Proof.Mem

open Idealize.ShloMosaic

/-! ## One element -/

/-- A gate: the logistic function of the input's part, the state's part and the bias. -/
def gate (a h b : EReal) : EReal := Ideal.logistic (a + h + b)

/-- The new state, from the reset gate `r`, the update gate `z`, the candidate's input part `a` with bias `b` and state part
    `g` with bias `d`, and the old state `h`. -/
def newState (r z a b g d h : EReal) : EReal := (1 - z) * Ideal.tanh (a + b + r * (g + d)) + z * h

/-- The new variance: nine tenths of the old one `v`, and a tenth of the square of the state's change from `h` to `n`. -/
def newVar (v n h : EReal) : EReal :=
  Ideal.ofBits .f32 0x3F666666#32 * v + Ideal.ofBits .f32 0x3DCCCCCD#32 * (n - h) * (n - h)

/-- Column `j` of each third of the 192 columns: the reset gate's, the update gate's, the candidate's. -/
abbrev colR (j : Fin 64) : Fin 192 := ⟨j.val, by omega⟩
abbrev colZ (j : Fin 64) : Fin 192 := ⟨64 + j.val, by omega⟩
abbrev colN (j : Fin 64) : Fin 192 := ⟨128 + j.val, by omega⟩

/-! ## The two arrays -/

section Arrays
variable (x h v : (⟨2, ![16384, 64]⟩ : Shape).Idx → EReal)
variable (wi wh : (⟨2, ![192, 64]⟩ : Shape).Idx → EReal) (bi bh : (⟨1, ![192]⟩ : Shape).Idx → EReal)

/-- Row `i` against row `c` of the weights. -/
def dotAt (i : Fin 16384) (c : Fin 192) : EReal := ∑ k : Fin 64, x (ix2 i k) * wi (ix2 c k)

/-- The new states, from the inputs `x` and the old states `h`, -/
def states : (⟨2, ![16384, 64]⟩ : Shape).Idx → EReal := fun y =>
  newState (gate (dotAt x wi (y 0) (colR (y 1))) (dotAt h wh (y 0) (colR (y 1))) (bi (ix1 (colR (y 1))) + bh (ix1 (colR (y 1)))))
    (gate (dotAt x wi (y 0) (colZ (y 1))) (dotAt h wh (y 0) (colZ (y 1))) (bi (ix1 (colZ (y 1))) + bh (ix1 (colZ (y 1)))))
    (dotAt x wi (y 0) (colN (y 1))) (bi (ix1 (colN (y 1)))) (dotAt h wh (y 0) (colN (y 1))) (bh (ix1 (colN (y 1)))) (h (ix2 (y 0) (y 1)))
/-- and the new variances, from the old ones `v` as well. -/
def vars : (⟨2, ![16384, 64]⟩ : Shape).Idx → EReal := fun y =>
  newVar (v (ix2 (y 0) (y 1))) (states x h wi wh bi bh y) (h (ix2 (y 0) (y 1)))

end Arrays

/-! ## The TensorCore body's blocks -/

section Blocks
open Cert.KernelIdeal Cert.KernelIdeal.Gen

variable (x0 : Vec Ideal S2048x64 .f32) (x1 : Vec Ideal S2048x128 .f32) (x2 x3 : Vec Ideal S64x192 .f32)
variable (x4 x5 x6 x7 : Vec Ideal S1x64 .f32)

/-- The two halves of a gathered row. -/
abbrev lo (j : Fin 64) : Fin 128 := ⟨j.val, by omega⟩
abbrev hi (j : Fin 64) : Fin 128 := ⟨64 + j.val, by omega⟩

def blkIn (r : Fin 2048) (c : Fin 192) : EReal := ∑ k : Fin 64, x0 (ix2 r k) * x2 (ix2 k c)
def blkSt (r : Fin 2048) (c : Fin 192) : EReal := ∑ k : Fin 64, x1 (ix2 r (lo k)) * x3 (ix2 k c)

theorem out8_apply (r : Fin 2048) (j : Fin 64) : out8 x0 x1 x2 x3 x4 x5 x6 x7 (ix2 r j)
    = newState (gate (blkIn x0 x2 r (colR j)) (blkSt x1 x3 r (colR j)) (x4 (ix2 0 j)))
        (gate (blkIn x0 x2 r (colZ j)) (blkSt x1 x3 r (colZ j)) (x5 (ix2 0 j)))
        (blkIn x0 x2 r (colN j)) (x6 (ix2 0 j)) (blkSt x1 x3 r (colN j)) (x7 (ix2 0 j)) (x1 (ix2 r (lo j))) := by
  pointwise [out8, k1_pay1, k1_pay3, k1_pay4, k1_pay5, k1_pay6, newState, gate, blkIn, blkSt, colR, colZ, colN, lo]

theorem out9_apply (r : Fin 2048) (j : Fin 64) : out9 x0 x1 x2 x3 x4 x5 x6 x7 (ix2 r j)
    = newVar (x1 (ix2 r (hi j))) (out8 x0 x1 x2 x3 x4 x5 x6 x7 (ix2 r j)) (x1 (ix2 r (lo j))) := by
  pointwise [out9, out8, k1_pay2, newVar, lo, hi]

end Blocks

end Cert.Proof.Mem

end
-- ==== Proof.Blocks.lean ====
/-
  The TensorCore call's two results over the extended reals: the arrays of `Cells.lean`, at the gathered rows.
-/
module

public import proofs.«01_k».proof.Proof.Cells
public import proofs.«01_k».proof.Proof.Frames

@[expose] public section

set_option maxRecDepth 16384

noncomputable section

namespace Cert.Proof.Mem

open Cert.KernelIdeal Cert.KernelIdeal.Gen
open Idealize.ShloMosaic Idealize.ShloMosaic.TcCoe
open Idealize.ShloMosaic.StableHlo (after)
open Idealize.ShloMosaic.Pipeline (Dat)

variable (m : (ℓ : Loc nD τ sig) → Buf (Elt Ideal) ℓ)

/-! ## The arguments, by the types they have -/

abbrev aX (d : Dev nD) : Vec Ideal S16384x64 .f32 := m (d, tcRef main_arg0)
abbrev aI (d : Dev nD) : Vec Ideal S16384 .i32 := m (d, tcRef main_arg1)
abbrev aH (d : Dev nD) : Vec Ideal S100000x64 .f32 := m (d, tcRef main_arg2)
abbrev aV (d : Dev nD) : Vec Ideal S100000x64 .f32 := m (d, tcRef main_arg3)
abbrev aWi (d : Dev nD) : Vec Ideal S192x64 .f32 := m (d, tcRef main_arg4)
abbrev aWh (d : Dev nD) : Vec Ideal S192x64 .f32 := m (d, tcRef main_arg5)
abbrev aBi (d : Dev nD) : Vec Ideal S192 .f32 := m (d, tcRef main_arg6)
abbrev aBh (d : Dev nD) : Vec Ideal S192 .f32 := m (d, tcRef main_arg7)

/-! ## The arrays the call reads -/

theorem V2_arg0 (d : Dev nD) : V2 m d main_arg0 = aX m d := W2_of_not_written m d main_arg0 (by decide) (by decide)

theorem V2_v0 (d : Dev nD) : V2 m d main_v0 = gathered (aI m d) (aH m d) (aV m d) :=
  (StableHlo.after_of_writes_sub opsA (W1 m d) (StableHlo.forall_writes_sub_of_map (W := writesA) rfl) (by decide)).trans
    (Function.update_self (tcRef main_v0) _ _)

theorem W1_ne (d : Dev nD) (b : Ref sig .tc) (h : b ≠ main_v0) : W1 m d (tcRef b) = m (d, tcRef b) :=
  Function.update_of_ne (StableHlo.devRef_ne_of_ne h) _ _

theorem V2_v1 (d : Dev nD) : V2 m d main_v1 = transpose S64x192 [1, 0] (aWi m d) transposes_S192x64_S64x192_1_0 := by
  rw [aWi, ← W1_ne m d main_arg4 (by decide)]
  unfold V2 W2 opsA
  after_results_simp

theorem V2_v2 (d : Dev nD) : V2 m d main_v2 = transpose S64x192 [1, 0] (aWh m d) transposes_S192x64_S64x192_1_0 := by
  rw [aWh, ← W1_ne m d main_arg5 (by decide)]
  unfold V2 W2 opsA
  after_results_simp

theorem V2_v6 (d : Dev nD) : V2 m d main_v6
    = shapeCast S1x64 (addf (extractStridedSlice S64 ![0] (aBi m d) slices_S192_S64_0) (extractStridedSlice S64 ![0] (aBh m d) slices_S192_S64_0) : FVec Ideal S64 .f32)
      shapeCasts_S64_S1x64 := by
  rw [aBi, aBh, ← W1_ne m d main_arg6 (by decide), ← W1_ne m d main_arg7 (by decide)]
  unfold V2 W2 opsA
  after_results_simp <;> rfl

theorem V2_v10 (d : Dev nD) : V2 m d main_v10
    = shapeCast S1x64 (addf (extractStridedSlice S64 ![64] (aBi m d) slices_S192_S64_64) (extractStridedSlice S64 ![64] (aBh m d) slices_S192_S64_64) : FVec Ideal S64 .f32)
      shapeCasts_S64_S1x64 := by
  rw [aBi, aBh, ← W1_ne m d main_arg6 (by decide), ← W1_ne m d main_arg7 (by decide)]
  unfold V2 W2 opsA
  after_results_simp <;> rfl

theorem V2_v12 (d : Dev nD) : V2 m d main_v12 = shapeCast S1x64 (extractStridedSlice S64 ![128] (aBi m d) slices_S192_S64_128) shapeCasts_S64_S1x64 := by
  rw [aBi, ← W1_ne m d main_arg6 (by decide)]
  unfold V2 W2 opsA
  after_results_simp <;> rfl

theorem V2_v14 (d : Dev nD) : V2 m d main_v14 = shapeCast S1x64 (extractStridedSlice S64 ![128] (aBh m d) slices_S192_S64_128) shapeCasts_S64_S1x64 := by
  rw [aBh, ← W1_ne m d main_arg7 (by decide)]
  unfold V2 W2 opsA
  after_results_simp <;> rfl

/-! ## Blocks -/

section
variable (V : (c : Dev nD) → (b : Ref sig .tc) → Buf (Elt Ideal) ((c : Thread nD τ).loc b))

/-- Row `r` of block `t`. -/
def rowAt (t : Fin cfg1.N) (r : Fin 2048) : Fin 16384 := ⟨t.val * 2048 + r.val, by have h : t.val < 8 := t.isLt; omega⟩

theorem idx_rows : ∀ t : Fin cfg1.N, win1_0.index t = ![t.val, 0] ∧ win1_1.index t = ![t.val, 0] ∧ win1_8.index t = ![t.val, 0]
    ∧ win1_9.index t = ![t.val, 0] := (by decide +kernel : ∀ t : Fin grid1.N, _)

theorem idx_whole : ∀ t : Fin cfg1.N, win1_2.index t = ![0, 0] ∧ win1_3.index t = ![0, 0] ∧ win1_4.index t = ![0, 0]
    ∧ win1_5.index t = ![0, 0] ∧ win1_6.index t = ![0, 0] ∧ win1_7.index t = ![0, 0] := (by decide +kernel : ∀ t : Fin grid1.N, _)

theorem iblk_0 (d : Dev nD) (t : Fin cfg1.N) (r : Fin 2048) (j : Fin 64) :
    iblk V d 0 t (ix2 r j) = V d main_arg0 (ix2 (rowAt t r) j) := by
  blk_simp [iblk]
  refine congrArg _ ?_
  blk_ext [(idx_rows t).1, rowAt]

theorem iblk_1 (d : Dev nD) (t : Fin cfg1.N) (r : Fin 2048) (j : Fin 128) :
    iblk V d 1 t (ix2 r j) = V d main_v0 (ix2 (rowAt t r) j) := by
  blk_simp [iblk]
  refine congrArg _ ?_
  blk_ext [(idx_rows t).2.1, rowAt]

theorem iblk_2 (d : Dev nD) (t : Fin cfg1.N) : iblk V d 2 t = V d main_v1 := by blk_ext! [iblk, idx_whole t]
theorem iblk_3 (d : Dev nD) (t : Fin cfg1.N) : iblk V d 3 t = V d main_v2 := by blk_ext! [iblk, idx_whole t]
theorem iblk_4 (d : Dev nD) (t : Fin cfg1.N) : iblk V d 4 t = V d main_v6 := by blk_ext! [iblk, idx_whole t]
theorem iblk_5 (d : Dev nD) (t : Fin cfg1.N) : iblk V d 5 t = V d main_v10 := by blk_ext! [iblk, idx_whole t]
theorem iblk_6 (d : Dev nD) (t : Fin cfg1.N) : iblk V d 6 t = V d main_v12 := by blk_ext! [iblk, idx_whole t]
theorem iblk_7 (d : Dev nD) (t : Fin cfg1.N) : iblk V d 7 t = V d main_v14 := by blk_ext! [iblk, idx_whole t]

/-- Where the blocks of the two results land. -/
theorem emb_8 (t : Fin cfg1.N) (y : S2048x64.Idx) : (win1_8.blk t).view.emb y = (ix2 (rowAt t (y 0)) (y 1) : S16384x64.Idx) := by
  blk_ext [(idx_rows t).2.2.1, rowAt]
theorem emb_9 (t : Fin cfg1.N) (y : S2048x64.Idx) : (win1_9.blk t).view.emb y = (ix2 (rowAt t (y 0)) (y 1) : S16384x64.Idx) := by
  blk_ext [(idx_rows t).2.2.2, rowAt]

end

/-! ## The results -/

/-- The old states, as the gather leaves them, -/
def oldStates (d : Dev nD) : (⟨2, ![16384, 64]⟩ : Shape).Idx → EReal := fun y => gathered (aI m d) (aH m d) (aV m d) (ix2 (y 0) (lo (y 1)))
/-- and the old variances. -/
def oldVars (d : Dev nD) : (⟨2, ![16384, 64]⟩ : Shape).Idx → EReal := fun y => gathered (aI m d) (aH m d) (aV m d) (ix2 (y 0) (hi (y 1)))

variable (d : Dev nD) (t : Fin cfg1.N) (r : Fin 2048) (j : Fin 64)

theorem blkIn_eq (c : Fin 192) : blkIn (iblk (V2 m) d 0 t) (iblk (V2 m) d 2 t) r c = dotAt (aX m d) (aWi m d) (rowAt t r) c := by
  refine Finset.sum_congr rfl fun k _ => ?_
  rw [iblk_0, iblk_2, V2_arg0, V2_v1]
  pointwise

theorem blkSt_eq (c : Fin 192) : blkSt (iblk (V2 m) d 1 t) (iblk (V2 m) d 3 t) r c = dotAt (oldStates m d) (aWh m d) (rowAt t r) c := by
  refine Finset.sum_congr rfl fun k _ => ?_
  rw [iblk_1, iblk_3, V2_v0, V2_v2]
  pointwise [oldStates]

theorem bias_4 : iblk (V2 m) d 4 t (ix2 0 j) = (aBi m d (ix1 (colR j)) + aBh m d (ix1 (colR j)) : EReal) := by
  rw [iblk_4, V2_v6]
  pointwise

theorem bias_5 : iblk (V2 m) d 5 t (ix2 0 j) = (aBi m d (ix1 (colZ j)) + aBh m d (ix1 (colZ j)) : EReal) := by
  rw [iblk_5, V2_v10]
  pointwise

theorem bias_6 : iblk (V2 m) d 6 t (ix2 0 j) = aBi m d (ix1 (colN j)) := by
  rw [iblk_6, V2_v12]
  pointwise

theorem bias_7 : iblk (V2 m) d 7 t (ix2 0 j) = aBh m d (ix1 (colN j)) := by
  rw [iblk_7, V2_v14]
  pointwise

theorem block_8 : out8 (iblk (V2 m) d 0 t) (iblk (V2 m) d 1 t) (iblk (V2 m) d 2 t) (iblk (V2 m) d 3 t) (iblk (V2 m) d 4 t) (iblk (V2 m) d 5 t)
      (iblk (V2 m) d 6 t) (iblk (V2 m) d 7 t) (ix2 r j)
    = states (aX m d) (oldStates m d) (aWi m d) (aWh m d) (aBi m d) (aBh m d) (ix2 (rowAt t r) j) := by
  rw [out8_apply]
  simp only [blkIn_eq, blkSt_eq, bias_4, bias_5, bias_6, bias_7]
  rw [iblk_1, V2_v0]
  rfl

theorem block_9 : out9 (iblk (V2 m) d 0 t) (iblk (V2 m) d 1 t) (iblk (V2 m) d 2 t) (iblk (V2 m) d 3 t) (iblk (V2 m) d 4 t) (iblk (V2 m) d 5 t)
      (iblk (V2 m) d 6 t) (iblk (V2 m) d 7 t) (ix2 r j)
    = vars (aX m d) (oldStates m d) (oldVars m d) (aWi m d) (aWh m d) (aBi m d) (aBh m d) (ix2 (rowAt t r) j) := by
  rw [out9_apply, block_8, iblk_1, iblk_1, V2_v0]
  rfl

/-- The TensorCore call leaves the new states in its first result, -/
theorem arr_8 : (dat (V2 m) d).arrAt 8 cfg1.N = states (aX m d) (oldStates m d) (aWi m d) (aWh m d) (aBi m d) (aBh m d) := by
  refine (dat (V2 m) d).arrAt_eq_of_covers 8 _ (by decide +kernel) fun t _ y => ?_
  blk_simp
  rw [after_8]
  exact (congrArg _ (eq_ix2 y)).trans ((block_8 m d t (y 0) (y 1)).trans (congrArg _ (emb_8 t y).symm))

/-- and the new variances in its second. -/
theorem arr_9 : (dat (V2 m) d).arrAt 9 cfg1.N = vars (aX m d) (oldStates m d) (oldVars m d) (aWi m d) (aWh m d) (aBi m d) (aBh m d) := by
  refine (dat (V2 m) d).arrAt_eq_of_covers 9 _ (by decide +kernel) fun t _ y => ?_
  blk_simp
  rw [after_9]
  exact (congrArg _ (eq_ix2 y)).trans ((block_9 m d t (y 0) (y 1)).trans (congrArg _ (emb_9 t y).symm))

end Cert.Proof.Mem

end
-- ==== Proof.RefValue.lean ====
/-
  The reference's result read back: its two scatters write the arrays of `Cells.lean`, at the old states and variances its
  gathers read.
-/
module

public import proofs.«01_k».proof.Proof.Cells
public import proofs.«01_k».proof.Proof.Gen.ReferenceIdeal.Run

@[expose] public section

set_option maxRecDepth 16384

noncomputable section

namespace Cert.Proof.Ref

open Cert.ReferenceIdeal Cert.ReferenceIdeal.Gen
open Idealize.ShloMosaic Idealize.ShloMosaic.TcCoe
open Cert.Proof.Mem (gate newState newVar colR colZ colN dotAt states vars)

/-! ## The gather -/

/-- The reference's gather: whole rows of an array, one for each index. -/
abbrev rowsDims : GatherDims S100000x64 S16384x1 S16384x64 := gather_S100000x64_S16384x1_S16384x64_1_0_n_n_0_1_164

/-- The gather read at an element: the operand's row at the index, read signed and clamped. -/
theorem gather_rows {α : Type} (x : S100000x64.Idx → α) (idx : IVec S16384x1 32) (y : S16384x64.Idx) :
    Host.gather rowsDims x idx y
      = x (ix2 ⟨min (idx (ix2 (y 0) 0)).toInt.toNat 99999, by omega⟩ (y 1)) := by
  unfold Host.gather
  congr 1
  funext a
  refine Fin.ext ?_
  match a with
  | ⟨0, _⟩ =>
    show rowsDims.start y idx 0 + rowsDims.batchCoord y 0 + rowsDims.offCoord y 0 = _
    rw [GatherDims.batchCoord_eq_zero _ _ _ (by decide), GatherDims.offCoord_eq_zero _ _ _ (by decide)]
    unfold GatherDims.start
    rw [dif_pos (show (0 : Fin 2) ∈ rowsDims.startIndexMap by decide)]
    have hsi : rowsDims.siIdx y ⟨List.idxOf (0 : Fin 2) rowsDims.startIndexMap, by decide⟩ = ix2 (y 0) 0 := by
      funext b
      refine Fin.ext ?_
      match b with
      | ⟨0, _⟩ => rfl
      | ⟨1, _⟩ => rfl
    rw [hsi]
    rfl
  | ⟨1, _⟩ =>
    show rowsDims.start y idx 1 + rowsDims.batchCoord y 1 + rowsDims.offCoord y 1 = _
    rw [GatherDims.batchCoord_eq_zero _ _ _ (by decide)]
    unfold GatherDims.start GatherDims.offCoord
    rw [dif_neg (show (1 : Fin 2) ∉ rowsDims.startIndexMap by decide), dif_pos (show (1 : Fin 2) ∈ rowsDims.sKept by decide)]
    exact (Nat.zero_add _)

/-! ## The reference's terms, named -/

section Terms
variable (x : Vec Ideal S16384x64 .f32) (idx : Vec Ideal S16384 .i32) (h v : Vec Ideal S100000x64 .f32)
variable (wi wh : Vec Ideal S192x64 .f32) (bi bh : Vec Ideal S192 .f32)

/-- The indices, the negative ones counted from the end. -/
def wrapped : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 100000#32))) idx)

/-- The rows of an array that the indices name, -/
def rows (a : Vec Ideal S100000x64 .f32) : FVec Ideal S16384x64 .f32 :=
  Host.gather rowsDims a (wrapped idx)

/-- rows against weights, with a bias. -/
def dense (a : FVec Ideal S16384x64 .f32) (w : Vec Ideal S192x64 .f32) (b : Vec Ideal S192 .f32) : FVec Ideal S16384x192 .f32 :=
  addf (Host.dotGeneral dot_S16384x64_S64x192_S16384x192_1_0_0_1_n_n none a
      (transpose S64x192 [1, 0] w transposes_S192x64_S64x192_1_0 : FVec Ideal S64x192 .f32))
    (broadcastInDim S16384x192 ![0, 1] bcast_S1x192_S16384x192_0_1 (broadcastInDim S1x192 ![1] bcast_S192_S1x192_1 b))

def ones : FVec Ideal S16384x64 .f32 := broadcastInDim S16384x64 ![] bcast_S_S16384x64 (constant S_ .f32 0x3F800000#32)

/-- The logistic function as the reference spells it. -/
def sig (a : FVec Ideal S16384x64 .f32) : FVec Ideal S16384x64 .f32 := Host.divf ones (addf ones (Host.exp (Host.negf a)))

/-- The update gate, -/
def zTerm : FVec Ideal S16384x64 .f32 :=
  sig (addf (extractStridedSlice S16384x64 ![0, 64] (dense x wi bi) slices_S16384x192_S16384x64_0_64)
    (extractStridedSlice S16384x64 ![0, 64] (dense (rows idx h) wh bh) slices_S16384x192_S16384x64_0_64))
/-- the reset gate, -/
def rTerm : FVec Ideal S16384x64 .f32 :=
  sig (addf (extractStridedSlice S16384x64 ![0, 0] (dense x wi bi) slices_S16384x192_S16384x64_0_0)
    (extractStridedSlice S16384x64 ![0, 0] (dense (rows idx h) wh bh) slices_S16384x192_S16384x64_0_0))
/-- the new states, -/
def hTerm : FVec Ideal S16384x64 .f32 :=
  addf (mulf (subf ones (zTerm x idx h wi wh bi bh))
      (Host.tanh (addf (extractStridedSlice S16384x64 ![0, 128] (dense x wi bi) slices_S16384x192_S16384x64_0_128)
        (mulf (rTerm x idx h wi wh bi bh)
          (extractStridedSlice S16384x64 ![0, 128] (dense (rows idx h) wh bh) slices_S16384x192_S16384x64_0_128)))))
    (mulf (zTerm x idx h wi wh bi bh) (rows idx h))
/-- the new variances, -/
def vTerm : FVec Ideal S16384x64 .f32 :=
  addf (mulf (broadcastInDim S16384x64 ![] bcast_S_S16384x64 (constant S_ .f32 0x3F666666#32)) (rows idx v))
    (mulf (broadcastInDim S16384x64 ![] bcast_S_S16384x64 (constant S_ .f32 0x3DCCCCCD#32))
      (mulf (subf (hTerm x idx h wi wh bi bh) (rows idx h)) (subf (hTerm x idx h wi wh bi bh) (rows idx h))))

/-- and the result: the two arrays with the named rows replaced, stacked. -/
def stacked (a b : FVec Ideal S16384x64 .f32) : Vec Ideal S2x100000x64 .f32 :=
  concatenate S2x100000x64 0
    [⟨S1x100000x64, broadcastInDim S1x100000x64 ![1, 2] bcast_S100000x64_S1x100000x64_1_2
        (Host.scatter scatter_S100000x64_S16384x1_S16384x64_1_0_0_1 (fun _ b => b) h (wrapped idx) a)⟩,
     ⟨S1x100000x64, broadcastInDim S1x100000x64 ![1, 2] bcast_S100000x64_S1x100000x64_1_2
        (Host.scatter scatter_S100000x64_S16384x1_S16384x64_1_0_0_1 (fun _ b => b) v (wrapped idx) b)⟩]
    concatenates_S1x100000x64_S1x100000x64_S2x100000x64_d0

end Terms

theorem res_eq (m : (ℓ : Loc nD τ Cert.ReferenceIdeal.sig) → Buf (Elt Ideal) ℓ) (c : Dev nD) : Value.res_main_v75 m c
    = stacked (m ((c.tc : Thread nD τ).loc main_arg1)) (m ((c.tc : Thread nD τ).loc main_arg2)) (m ((c.tc : Thread nD τ).loc main_arg3))
        (hTerm (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)))
        (vTerm (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7))) := rfl

/-! ## The terms read at an element -/

section Apply
variable (x : Vec Ideal S16384x64 .f32) (idx : Vec Ideal S16384 .i32) (h v : Vec Ideal S100000x64 .f32)
variable (wi wh : Vec Ideal S192x64 .f32) (bi bh : Vec Ideal S192 .f32)

theorem dense_apply (a : FVec Ideal S16384x64 .f32) (w : Vec Ideal S192x64 .f32) (b : Vec Ideal S192 .f32) (i : Fin 16384) (c : Fin 192) :
    dense a w b (ix2 i c) = dotAt a w i c + b (ix1 c) := by
  pointwise [dense, dotAt]

theorem sig_apply (a : FVec Ideal S16384x64 .f32) (y : S16384x64.Idx) : sig a y = Ideal.logistic (a y) := by
  pointwise [sig, ones, Ideal.logistic]

theorem hTerm_eq : hTerm x idx h wi wh bi bh = states x (rows idx h) wi wh bi bh := by
  funext y
  pointwise [hTerm, zTerm, rTerm, ones, sig_apply, dense_apply, states, newState, gate, colR, colZ, colN]
  simp only [add_add_add_comm (_ : EReal) (bi _)]

theorem vTerm_eq : vTerm x idx h v wi wh bi bh = vars x (rows idx h) (rows idx v) wi wh bi bh := by
  funext y
  pointwise [vTerm, hTerm_eq, vars, newVar, mul_assoc]

end Apply

end Cert.Proof.Ref

end
-- ==== Proof.Value.lean ====
/-
  The value claim: the kernel's result is the reference's.
-/
module

public import proofs.«01_k».proof.Proof.Blocks
public import proofs.«01_k».proof.Proof.RefValue

@[expose] public section

set_option maxRecDepth 16384

noncomputable section

namespace Cert.Proof.Mem

open Cert.KernelIdeal Cert.KernelIdeal.Gen
open Idealize.ShloMosaic Idealize.ShloMosaic.TcCoe
open Idealize.ShloMosaic.StableHlo (after)
open Idealize.SL.Sem

/-! ## The reference's gather, at indices in range -/

section Gather
variable (idx : Vec Ideal S16384 .i32) (h v : Vec Ideal S100000x64 .f32)

/-- An index in range is not moved, -/
theorem wrapped_apply (i : Fin 16384) (hi : (idx (ix1 i)).toNat < 100000) : Ref.wrapped idx (ix2 i 0) = idx (ix1 i) := by
  have h0 : (idx (ix1 i)).slt 0#32 = false := by
    rw [BitVec.slt_eq_decide, decide_eq_false_iff_not, BitVec.toInt_eq_toNat_of_lt (by omega)]
    simp
  pointwise [Ref.wrapped]
  show Scalar.select (BitVec.ofBool ((idx (ix1 i)).slt 0#32)) _ _ = _
  rw [h0]
  rfl

/-- and the row it names is the row gathered. -/
theorem rows_apply (a : Vec Ideal S100000x64 .f32) (i : Fin 16384) (j : Fin 64) (hi : (idx (ix1 i)).toNat < 100000) :
    Ref.rows idx a (ix2 i j) = a (ix2 ⟨(idx (ix1 i)).toNat % 100000, Nat.mod_lt _ (by decide)⟩ j) := by
  unfold Ref.rows
  rw [Ref.gather_rows]
  refine congrArg a ?_
  have e : Ref.wrapped idx (ix2 i 0) = idx (ix1 i) := wrapped_apply idx i hi
  refine congrArg (fun k => ix2 k j) (Fin.ext ?_)
  show min (Ref.wrapped idx (ix2 i 0)).toInt.toNat 99999 = (idx (ix1 i)).toNat % 100000
  rw [e, BitVec.toInt_eq_toNat_of_lt (by omega), Int.toNat_natCast, Nat.mod_eq_of_lt hi]
  omega

variable (hidx : ∀ j, (idx j : BitVec 32).toNat < 100000)
include hidx

theorem lo_apply (i : Fin 16384) (j : Fin 64) : gathered idx h v (ix2 i (lo j)) = Ref.rows idx h (ix2 i j) := by
  rw [rows_apply idx h _ _ (hidx _)]
  unfold gathered pick
  exact dif_pos (show (lo j).val < 64 from j.isLt)

theorem hi_apply (i : Fin 16384) (j : Fin 64) : gathered idx h v (ix2 i (hi j)) = Ref.rows idx v (ix2 i j) := by
  rw [rows_apply idx v _ _ (hidx _)]
  unfold gathered pick
  refine (dif_neg (show ¬ (hi j).val < 64 from Nat.not_lt.2 (Nat.le_add_right 64 _))).trans ?_
  exact congrArg v (congrArg (ix2 _) (Fin.ext (Nat.add_sub_cancel_left ..)))

theorem rows_lo : (fun y => gathered idx h v (ix2 (y 0) (lo (y 1)))) = Ref.rows idx h :=
  funext fun y => (lo_apply idx h v hidx (y 0) (y 1)).trans (congrArg _ (eq_ix2 y).symm)

theorem rows_hi : (fun y => gathered idx h v (ix2 (y 0) (hi (y 1)))) = Ref.rows idx v :=
  funext fun y => (hi_apply idx h v hidx (y 0) (y 1)).trans (congrArg _ (eq_ix2 y).symm)

end Gather

/-! ## The result -/

section Result
variable (m : (ℓ : Loc nD τ sig) → Buf (Elt Ideal) ℓ)

theorem W3_arg (d : Dev nD) {b : Ref sig .tc} (hb : Unwritten b) : W3 m d (tcRef b) = m (d, tcRef b) :=
  (V3_ne m d b hb.v15_0 hb.v15_1).trans (W2_of_not_written m d b hb.v0 hb.lineA)

/-- The last line, read back: the two scatters, stacked. -/
theorem W4_v32 (d : Dev nD) : W4 m d (tcRef main_v32)
    = Ref.stacked (aI m d) (aH m d) (aV m d) ((dat (V2 m) d).arrAt 8 cfg1.N) ((dat (V2 m) d).arrAt 9 cfg1.N) := by
  rw [aI, aH, aV, ← W3_arg m d arg1_unwritten, ← W3_arg m d arg2_unwritten, ← W3_arg m d arg3_unwritten, ← V3_8, ← V3_9]
  unfold V3 W4 Ref.stacked Ref.wrapped
  generalize W3 m d = W
  unfold opsB
  generalize hf : ((fun a b => concatenate S2x100000x64 0 [⟨S1x100000x64, a⟩, ⟨S1x100000x64, b⟩] concatenates_S1x100000x64_S1x100000x64_S2x100000x64_d0) :
    (⟨S1x100000x64, .f32⟩ : BufTy).Contents (Elt Ideal) → (⟨S1x100000x64, .f32⟩ : BufTy).Contents (Elt Ideal)
      → (⟨S2x100000x64, .f32⟩ : BufTy).Contents (Elt Ideal)) = f
  after_results_simp
  subst hf
  rfl

theorem result_eq (hpre : PreOK m) (d : Dev nD) : W4 m d (tcRef main_v32)
    = Ref.stacked (aI m d) (aH m d) (aV m d) (Ref.hTerm (aX m d) (aI m d) (aH m d) (aWi m d) (aWh m d) (aBi m d) (aBh m d))
        (Ref.vTerm (aX m d) (aI m d) (aH m d) (aV m d) (aWi m d) (aWh m d) (aBi m d) (aBh m d)) := by
  have e1 : oldStates m d = Ref.rows (aI m d) (aH m d) := rows_lo _ _ _ (hpre d)
  have e2 : oldVars m d = Ref.rows (aI m d) (aV m d) := rows_hi _ _ _ (hpre d)
  rw [W4_v32, arr_8, arr_9, Ref.hTerm_eq, Ref.vTerm_eq, e1, e2]

end Result

/-! ## The claim -/

theorem algebraic : Cert.algebraic_KernelIdeal_ReferenceIdeal := by
  intro m g m' g' hpre hargs
  have hm : PreOK m := fun d j => toNat_of_pre (hpre d) j
  refine ⟨fun c => W4 m c (tcRef main_v32), (θ_run Cert.KernelIdeal.defs _ _).mono (fun r h c => ⟨h.1 c (tcRef main_v32) (by decide), args_end m h c⟩) (run_main m g hm), ?_⟩
  refine (θ_run Cert.ReferenceIdeal.defs _ _).mono (fun r h c => ⟨(h c).1.trans ?_, (h c).2⟩) (Cert.ReferenceIdeal.Value.run (F := Ideal) m' g')
  obtain ⟨h0, h1, h2, h3, h4, h5, h6, h7⟩ := hargs c
  rw [Ref.res_eq, h0, h1, h2, h3, h4, h5, h6, h7]
  exact (result_eq m hm c).symm

end Cert.Proof.Mem

end
-- ==== Proof.lean ====
/-
  The claim: both programs' frames, the kernel's idealisation, and the equality of its result with the reference's.
-/
module

public import proofs.«01_k».proof.Defs
public import proofs.«01_k».proof.Proof.Frames
public import proofs.«01_k».proof.Proof.RefFrame
public import proofs.«01_k».proof.Proof.Value

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Mem.frame_kernel, Mem.frame_kernelIdeal, frame_referenceIdeal, frame_referenceIdeal_pre, trivial, Mem.algebraic⟩

end Cert.Proof

end
